-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_are_finite [hPre_inputs_are_finite : Cert.Pre_inputs_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_inputs_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_are_finite [hPre_inputs_are_finite : Cert.Pre_inputs_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_inputs_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_are_finite [hKernelIdeal : Cert.KernelIdeal.Facts] [hPre_inputs_are_finite : Cert.Pre_inputs_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_are_finite [hReferenceIdeal : Cert.ReferenceIdeal.Facts] [hPre_inputs_are_finite : Cert.Pre_inputs_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9)
      ∧ r.2.mem ((c.tc : Thread Cert.OutKernel.nD Cert.OutKernel.τ).loc Cert.OutKernel.main_arg10) = m ((c.tc : Thread Cert.OutKernel.nD Cert.OutKernel.τ).loc Cert.OutKernel.main_arg10)
      ∧ r.2.mem ((c.tc : Thread Cert.OutKernel.nD Cert.OutKernel.τ).loc Cert.OutKernel.main_arg11) = m ((c.tc : Thread Cert.OutKernel.nD Cert.OutKernel.τ).loc Cert.OutKernel.main_arg11)
      ∧ r.2.mem ((c.tc : Thread Cert.OutKernel.nD Cert.OutKernel.τ).loc Cert.OutKernel.main_arg12) = m ((c.tc : Thread Cert.OutKernel.nD Cert.OutKernel.τ).loc Cert.OutKernel.main_arg12))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
      ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
      ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10)
      ∧ r.2.mem ((c.tc : Thread Cert.OutReferenceIdeal.nD Cert.OutReferenceIdeal.τ).loc Cert.OutReferenceIdeal.main_arg11) = m ((c.tc : Thread Cert.OutReferenceIdeal.nD Cert.OutReferenceIdeal.τ).loc Cert.OutReferenceIdeal.main_arg11)
      ∧ r.2.mem ((c.tc : Thread Cert.OutReferenceIdeal.nD Cert.OutReferenceIdeal.τ).loc Cert.OutReferenceIdeal.main_arg12) = m ((c.tc : Thread Cert.OutReferenceIdeal.nD Cert.OutReferenceIdeal.τ).loc Cert.OutReferenceIdeal.main_arg12))
      ∧ r.2.sem = fun _ => 0)

def preserves_Kernel_KernelIdeal : Prop :=
  True

def algebraic_KernelIdeal_ReferenceIdeal_pre_inputs_are_finite [hKernelIdeal : Cert.KernelIdeal.Facts] [hReferenceIdeal : Cert.ReferenceIdeal.Facts] [hPre_inputs_are_finite : Cert.Pre_inputs_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)
      ∧ m' ((c.tc : Thread Cert.OutReferenceIdeal.nD Cert.OutReferenceIdeal.τ).loc Cert.OutReferenceIdeal.main_arg10) = m ((c.tc : Thread Cert.OutKernelIdeal.nD Cert.OutKernelIdeal.τ).loc Cert.OutKernelIdeal.main_arg10)
      ∧ m' ((c.tc : Thread Cert.OutReferenceIdeal.nD Cert.OutReferenceIdeal.τ).loc Cert.OutReferenceIdeal.main_arg11) = m ((c.tc : Thread Cert.OutKernelIdeal.nD Cert.OutKernelIdeal.τ).loc Cert.OutKernelIdeal.main_arg11)
      ∧ m' ((c.tc : Thread Cert.OutReferenceIdeal.nD Cert.OutReferenceIdeal.τ).loc Cert.OutReferenceIdeal.main_arg12) = m ((c.tc : Thread Cert.OutKernelIdeal.nD Cert.OutKernelIdeal.τ).loc Cert.OutKernelIdeal.main_arg12)) →
    ∃ (v0 : (c : Dev Cert.OutKernelIdeal.nD) → Buf (Elt Ideal) ((c.tc : Thread Cert.OutKernelIdeal.nD Cert.OutKernelIdeal.τ).loc Cert.OutKernelIdeal.main_v11_0)) (v1 : (c : Dev Cert.OutKernelIdeal.nD) → Buf (Elt Ideal) ((c.tc : Thread Cert.OutKernelIdeal.nD Cert.OutKernelIdeal.τ).loc Cert.OutKernelIdeal.main_v11_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v11_0) = v0 c
          ∧ r.2.mem ((c.tc : Thread Cert.OutKernelIdeal.nD Cert.OutKernelIdeal.τ).loc Cert.OutKernelIdeal.main_v11_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
          ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
          ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
          ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v78) = v0 c
          ∧ r.2.mem ((c.tc : Thread Cert.OutReferenceIdeal.nD Cert.OutReferenceIdeal.τ).loc Cert.OutReferenceIdeal.main_v157) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10)
          ∧ r.2.mem ((c.tc : Thread Cert.OutReferenceIdeal.nD Cert.OutReferenceIdeal.τ).loc Cert.OutReferenceIdeal.main_arg11) = m' ((c.tc : Thread Cert.OutReferenceIdeal.nD Cert.OutReferenceIdeal.τ).loc Cert.OutReferenceIdeal.main_arg11)
          ∧ r.2.mem ((c.tc : Thread Cert.OutReferenceIdeal.nD Cert.OutReferenceIdeal.τ).loc Cert.OutReferenceIdeal.main_arg12) = m' ((c.tc : Thread Cert.OutReferenceIdeal.nD Cert.OutReferenceIdeal.τ).loc Cert.OutReferenceIdeal.main_arg12))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hPre_inputs_are_finite : Cert.Pre_inputs_are_finite.Facts),
    quiescent_Kernel (hKernel := hKernel)
    ∧ quiescent_KernelIdeal (hKernelIdeal := hKernelIdeal)
    ∧ quiescent_KernelIdeal_pre_inputs_are_finite (hKernelIdeal := hKernelIdeal) (hPre_inputs_are_finite := hPre_inputs_are_finite)
    ∧ quiescent_ReferenceIdeal (hReferenceIdeal := hReferenceIdeal)
    ∧ quiescent_ReferenceIdeal_pre_inputs_are_finite (hReferenceIdeal := hReferenceIdeal) (hPre_inputs_are_finite := hPre_inputs_are_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal_pre_inputs_are_finite (hKernelIdeal := hKernelIdeal) (hReferenceIdeal := hReferenceIdeal) (hPre_inputs_are_finite := hPre_inputs_are_finite)
    ∧ preserves_OutKernel_OutKernelIdeal
    ∧ algebraic_OutKernelIdeal_OutReferenceIdeal (hOutKernelIdeal := hOutKernelIdeal) (hOutReferenceIdeal := hOutReferenceIdeal)
-- ==== Pre_inputs_are_finite.lean ====
abbrev S32x256x1024 : Shape := ⟨3, ![32, 256, 1024]⟩
abbrev S1x6x1024 : Shape := ⟨3, ![1, 6, 1024]⟩
abbrev S1x1024 : Shape := ⟨2, ![1, 1024]⟩
abbrev S1x1024x3104 : Shape := ⟨3, ![1, 1024, 3104]⟩
abbrev S1x64 : Shape := ⟨2, ![1, 64]⟩
abbrev S1x128 : Shape := ⟨2, ![1, 128]⟩
abbrev S_ : Shape := ⟨0, ![]⟩

class Facts : Prop where
  bcast_S_S32x256x1024 : S_.BroadcastsInDim S32x256x1024 (![] : Fin 0 → Fin S32x256x1024.rank)
  bcast_S_S1x6x1024 : S_.BroadcastsInDim S1x6x1024 (![] : Fin 0 → Fin S1x6x1024.rank)
  bcast_S_S1x1024 : S_.BroadcastsInDim S1x1024 (![] : Fin 0 → Fin S1x1024.rank)
  bcast_S_S1x1024x3104 : S_.BroadcastsInDim S1x1024x3104 (![] : Fin 0 → Fin S1x1024x3104.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_v2 : IVec S32x256x1024 1) (main_v5 : IVec S1x6x1024 1) (main_v8 : IVec S1x1024 1) (main_v11 : IVec S1x1024x3104 1) (main_v14 : IVec S1x64 1) (main_v17 : IVec S1x64 1) : IVec S32x256x1024 1 × IVec S1x6x1024 1 × IVec S1x1024 1 × IVec S1x1024x3104 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  (main_v2, main_v5, main_v8, main_v11, main_v14, main_v17, main_v20, main_v23)

def fn {F : FTy → Type} [FloatOps F] (main_arg0 : FVec F S32x256x1024 .f32) (main_arg1 : FVec F S1x6x1024 .f32) (main_arg2 : FVec F S1x1024 .f32) (main_arg3 : FVec F S1x1024x3104 .f32) (main_arg4 : FVec F S1x64 .f32) (main_arg5 : FVec F S1x64 .f32) (main_arg6 : FVec F S1x64 .f32) (main_arg7 : FVec F S1x64 .f32) (main_arg8 : FVec F S1x128 .f32) : IVec S32x256x1024 1 × IVec S1x6x1024 1 × IVec S1x1024 1 × IVec S1x1024x3104 1 × IVec S1x64 1 × IVec S1x64 1 × IVec S1x64 1 × IVec S1x64 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_v3 : FVec F S1x6x1024 .f32 := Host.absf main_arg1
  let main_cst_0 : FVec F S_ .f32 := constant S_ .f32 0x7F800000#32
  let main_v4 : FVec F S1x6x1024 .f32 := broadcastInDim S1x6x1024 ![] bcast_S_S1x6x1024 main_cst_0
  let main_v5 : IVec S1x6x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3104 .f32 := Host.absf main_arg3
  let main_cst_2 : FVec F S_ .f32 := constant S_ .f32 0x7F800000#32
  let main_v10 : FVec F S1x1024x3104 .f32 := broadcastInDim S1x1024x3104 ![] bcast_S_S1x1024x3104 main_cst_2
  let main_v11 : IVec S1x1024x3104 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_v2 main_v5 main_v8 main_v11 main_v14 main_v17
-- ==== Kernel.lean ====
abbrev S32x256x1024 : Shape := ⟨3, ![32, 256, 1024]⟩
abbrev S1x6x1024 : Shape := ⟨3, ![1, 6, 1024]⟩
abbrev S1x1024 : Shape := ⟨2, ![1, 1024]⟩
abbrev S1x1024x3104 : Shape := ⟨3, ![1, 1024, 3104]⟩
abbrev S1x64 : Shape := ⟨2, ![1, 64]⟩
abbrev S1x128 : Shape := ⟨2, ![1, 128]⟩
abbrev S1024 : Shape := ⟨1, ![1024]⟩
abbrev S1024x3104 : Shape := ⟨2, ![1024, 3104]⟩
abbrev S64 : Shape := ⟨1, ![64]⟩
abbrev S4x64 : Shape := ⟨2, ![4, 64]⟩
abbrev S128 : Shape := ⟨1, ![128]⟩
abbrev S8192x1024 : Shape := ⟨2, ![8192, 1024]⟩
abbrev S8192x512 : Shape := ⟨2, ![8192, 512]⟩
abbrev S32x1x4x256x128 : Shape := ⟨5, ![32, 1, 4, 256, 128]⟩
abbrev S1024x1024 : Shape := ⟨2, ![1024, 1024]⟩
abbrev S1024x1536 : Shape := ⟨2, ![1024, 1536]⟩
abbrev S1024x512 : Shape := ⟨2, ![1024, 512]⟩
abbrev S4x1x4x256x128 : Shape := ⟨5, ![4, 1, 4, 256, 128]⟩
abbrev S1 : Shape := ⟨1, ![1]⟩
abbrev S1x1 : Shape := ⟨2, ![1, 1]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x512 : Shape := ⟨2, ![256, 512]⟩
abbrev S1x1x1x256x128 : Shape := ⟨5, ![1, 1, 1, 256, 128]⟩
abbrev S256x256 : Shape := ⟨2, ![256, 256]⟩

abbrev nBuf : Space → Nat
  | .hbm => 28
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1x1024, .f32⟩
  | .hbm, ⟨3, _⟩ => ⟨S1x1024x3104, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S1024, .f32⟩
  | .hbm, ⟨10, _⟩ => ⟨S1x1024, .f32⟩
  | .hbm, ⟨11, _⟩ => ⟨S1024x3104, .f32⟩
  | .hbm, ⟨12, _⟩ => ⟨S1024x3104, .bf16⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S128, .f32⟩
  | .hbm, ⟨23, _⟩ => ⟨S1x128, .f32⟩
  | .hbm, ⟨24, _⟩ => ⟨S8192x1024, .f32⟩
  | .hbm, ⟨25, _⟩ => ⟨S8192x512, .bf16⟩
  | .hbm, ⟨26, _⟩ => ⟨S32x1x4x256x128, .f32⟩
  | .hbm, ⟨27, _⟩ => ⟨S32x1x4x256x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1536, .bf16⟩
  | .local _ .vmem, ⟨5, _⟩ => ⟨S4x64, .f32⟩
  | .local _ .vmem, ⟨6, _⟩ => ⟨S1x128, .f32⟩
  | .local _ .vmem, ⟨7, _⟩ => ⟨S1024x512, .bf16⟩
  | .local _ .vmem, ⟨8, _⟩ => ⟨S1024x512, .bf16⟩
  | .local _ .vmem, ⟨9, _⟩ => ⟨S4x1x4x256x128, .f32⟩
  | .local _ .vmem, ⟨10, _⟩ => ⟨S4x1x4x256x128, .f32⟩
  | .local _ .vmem, ⟨11, _⟩ => ⟨S4x1x4x256x128, .f32⟩
  | .local _ .vmem, ⟨12, _⟩ => ⟨S4x1x4x256x128, .f32⟩
  | .local _ .vmem, ⟨13, _⟩ => ⟨S1024x1536, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x256x1024 : Shape := ⟨3, ![32, 256, 1024]⟩
abbrev S1x6x1024 : Shape := ⟨3, ![1, 6, 1024]⟩
abbrev S1x1024 : Shape := ⟨2, ![1, 1024]⟩
abbrev S1x1024x3104 : Shape := ⟨3, ![1, 1024, 3104]⟩
abbrev S1x64 : Shape := ⟨2, ![1, 64]⟩
abbrev S1x128 : Shape := ⟨2, ![1, 128]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1024x3104 : Shape := ⟨2, ![1024, 3104]⟩
abbrev S32x256x3104 : Shape := ⟨3, ![32, 256, 3104]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S32x4x256x64 : Shape := ⟨4, ![32, 4, 256, 64]⟩
abbrev S64 : Shape := ⟨1, ![64]⟩
abbrev S32x4x256x256 : Shape := ⟨4, ![32, 4, 256, 256]⟩
abbrev S32x4x256 : Shape := ⟨3, ![32, 4, 256]⟩
abbrev S32x4x256x1 : Shape := ⟨4, ![32, 4, 256, 1]⟩
abbrev S128 : Shape := ⟨1, ![128]⟩
abbrev S1x1x1x128 : Shape := ⟨4, ![1, 1, 1, 128]⟩
abbrev S8192x512 : Shape := ⟨2, ![8192, 512]⟩
abbrev S32x1x4x256x128 : Shape := ⟨5, ![32, 1, 4, 256, 128]⟩

abbrev nBuf : Space → Nat
  | .hbm => 135
  | .vmem => 0
  | .smem => 0
  | _ => 0

abbrev hbmTy0_0 (i : Nat) : BufTy := match i % 128 with
  | 0 => ⟨S32x256x1024, .f32⟩
  | 1 => ⟨S1x6x1024, .f32⟩
  | 2 => ⟨S1x1024, .f32⟩
  | 3 => ⟨S1x1024x3104, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S1x1x1024, .f32⟩
  | 10 => ⟨S1024, .f32⟩
  | 11 => ⟨S1x1x1024, .f32⟩
  | 12 => ⟨S1024, .f32⟩
  | 13 => ⟨S1024, .f32⟩
  | 14 => ⟨S32x256x1024, .f32⟩
  | 15 => ⟨S_, .f32⟩
  | 16 => ⟨S32x256, .f32⟩
  | 17 => ⟨S32x256x1, .f32⟩
  | 18 => ⟨S_, .f32⟩
  | 19 => ⟨S32x256x1, .f32⟩
  | 20 => ⟨S32x256x1, .f32⟩
  | 21 => ⟨S_, .f32⟩
  | 22 => ⟨S32x256x1, .f32⟩
  | 23 => ⟨S32x256x1, .f32⟩
  | 24 => ⟨S32x256x1, .f32⟩
  | 25 => ⟨S32x256x1024, .f32⟩
  | 26 => ⟨S32x256x1024, .f32⟩
  | 27 => ⟨S1x1x1024, .f32⟩
  | 28 => ⟨S32x256x1024, .f32⟩
  | 29 => ⟨S32x256x1024, .f32⟩
  | 30 => ⟨S_, .f32⟩
  | 31 => ⟨S1024, .f32⟩
  | 32 => ⟨S1024, .f32⟩
  | 33 => ⟨S1x1x1024, .f32⟩
  | 34 => ⟨S32x256x1024, .f32⟩
  | 35 => ⟨S32x256x1024, .f32⟩
  | 36 => ⟨S1x1x1024, .f32⟩
  | 37 => ⟨S32x256x1024, .f32⟩
  | 38 => ⟨S32x256x1024, .f32⟩
  | 39 => ⟨S1024x3104, .f32⟩
  | 40 => ⟨S32x256x3104, .f32⟩
  | 41 => ⟨S32x256x512, .f32⟩
  | 42 => ⟨S32x256x4x128, .f32⟩
  | 43 => ⟨S32x4x256x128, .f32⟩
  | 44 => ⟨S32x256x512, .f32⟩
  | 45 => ⟨S32x256x4x128, .f32⟩
  | 46 => ⟨S32x4x256x128, .f32⟩
  | 47 => ⟨S32x256x512, .f32⟩
  | 48 => ⟨S32x256x4x128, .f32⟩
  | 49 => ⟨S32x4x256x128, .f32⟩
  | 50 => ⟨S32x4x256x64, .f32⟩
  | 51 => ⟨S32x4x256x64, .f32⟩
  | 52 => ⟨S32x4x256x64, .f32⟩
  | 53 => ⟨S32x4x256x64, .f32⟩
  | 54 => ⟨S32x4x256x128, .f32⟩
  | 55 => ⟨S64, .f32⟩
  | 56 => ⟨S64, .f32⟩
  | 57 => ⟨S64, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S32x4x256x256, .f32⟩
  | 71 => ⟨S_, .f32⟩
  | 72 => ⟨S32x4x256x256, .f32⟩
  | 73 => ⟨S32x4x256x256, .f32⟩
  | 74 => ⟨S32x4x256x256, .f32⟩
  | 75 => ⟨S_, .f32⟩
  | 76 => ⟨S32x4x256x256, .f32⟩
  | 77 => ⟨S32x4x256x256, .f32⟩
  | 78 => ⟨S_, .f32⟩
  | 79 => ⟨S32x4x256, .f32⟩
  | 80 => ⟨S_, .f32⟩
  | 81 => ⟨S32x4x256, .f32⟩
  | 82 => ⟨S32x4x256, .f32⟩
  | 83 => ⟨S32x4x256x1, .f32⟩
  | 84 => ⟨S32x4x256x256, .f32⟩
  | 85 => ⟨S32x4x256x256, .f32⟩
  | 86 => ⟨S32x4x256x256, .f32⟩
  | 87 => ⟨S_, .f32⟩
  | 88 => ⟨S32x4x256, .f32⟩
  | 89 => ⟨S32x4x256x1, .f32⟩
  | 90 => ⟨S32x4x256x256, .f32⟩
  | 91 => ⟨S32x4x256x256, .f32⟩
  | 92 => ⟨S_, .f32⟩
  | 93 => ⟨S32x4x256, .f32⟩
  | 94 => ⟨S_, .f32⟩
  | 95 => ⟨S32x4x256, .f32⟩
  | 96 => ⟨S32x4x256, .f32⟩
  | 97 => ⟨S32x4x256x1, .f32⟩
  | 98 => ⟨S32x4x256x256, .f32⟩
  | 99 => ⟨S32x4x256x256, .f32⟩
  | 100 => ⟨S32x4x256x256, .f32⟩
  | 101 => ⟨S_, .f32⟩
  | 102 => ⟨S32x4x256, .f32⟩
  | 103 => ⟨S32x4x256x1, .f32⟩
  | 104 => ⟨S32x4x256x256, .f32⟩
  | 105 => ⟨S32x4x256x256, .f32⟩
  | 106 => ⟨S32x4x256x256, .f32⟩
  | 107 => ⟨S32x4x256x256, .f32⟩
  | 108 => ⟨S32x4x256x256, .f32⟩
  | 109 => ⟨S32x4x256x128, .f32⟩
  | 110 => ⟨S128, .f32⟩
  | 111 => ⟨S32x4x256x128, .f32⟩
  | 112 => ⟨S_, .f32⟩
  | 113 => ⟨S32x4x256, .f32⟩
  | 114 => ⟨S32x4x256x1, .f32⟩
  | 115 => ⟨S_, .f32⟩
  | 116 => ⟨S32x4x256x1, .f32⟩
  | 117 => ⟨S32x4x256x1, .f32⟩
  | 118 => ⟨S_, .f32⟩
  | 119 => ⟨S32x4x256x1, .f32⟩
  | 120 => ⟨S32x4x256x1, .f32⟩
  | 121 => ⟨S32x4x256x1, .f32⟩
  | 122 => ⟨S32x4x256x128, .f32⟩
  | 123 => ⟨S32x4x256x128, .f32⟩
  | 124 => ⟨S1x1x1x128, .f32⟩
  | 125 => ⟨S32x4x256x128, .f32⟩
  | 126 => ⟨S32x4x256x128, .f32⟩
  | 127 => ⟨S_, .f32⟩
  | _ => ⟨S32x256x1024, .f32⟩

abbrev hbmTy0_1 (i : Nat) : BufTy := match i % 128 with
  | 0 => ⟨S32x4x256x128, .f32⟩
  | 1 => ⟨S32x4x256x128, .f32⟩
  | 2 => ⟨S32x256x4x128, .f32⟩
  | 3 => ⟨S8192x512, .f32⟩
  | 4 => ⟨S8192x512, .bf16⟩
  | 5 => ⟨S32x1x4x256x128, .f32⟩
  | 6 => ⟨S32x1x4x256x128, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩

abbrev nD : Nat := 1
abbrev τ : Topo := Topo.v7x

variable {F : FTy → Type} [FloatOps F]
-- ==== OutKernel.lean ====
abbrev S32x256x1024 : Shape := ⟨3, ![32, 256, 1024]⟩
abbrev S8192x512 : Shape := ⟨2, ![8192, 512]⟩
abbrev S8x1024x1024 : Shape := ⟨3, ![8, 1024, 1024]⟩
abbrev S9x6x1024 : Shape := ⟨3, ![9, 6, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8192x1024 : Shape := ⟨2, ![8192, 1024]⟩
abbrev S512x1024 : Shape := ⟨2, ![512, 1024]⟩
abbrev S512x512 : Shape := ⟨2, ![512, 512]⟩
abbrev S1x6x1024 : Shape := ⟨3, ![1, 6, 1024]⟩
abbrev S4x512x1024 : Shape := ⟨3, ![4, 512, 1024]⟩
abbrev S4 : Shape := ⟨1, ![4]⟩
abbrev S1 : Shape := ⟨1, ![1]⟩
abbrev S_ : Shape := ⟨0, ![]⟩
abbrev S1x512x1024 : Shape := ⟨3, ![1, 512, 1024]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 26
  | .vmem => 25
  | .smem => 0
  | _ => 0

abbrev bufTy : (tb : Table) → Fin (tcTables nBuf tb) → BufTy
  | .hbm, ⟨0, _⟩ => ⟨S32x256x1024, .f32⟩
  | .hbm, ⟨1, _⟩ => ⟨S8192x512, .bf16⟩
  | .hbm, ⟨2, _⟩ => ⟨S8192x512, .bf16⟩
  | .hbm, ⟨3, _⟩ => ⟨S8x1024x1024, .f32⟩
  | .hbm, ⟨4, _⟩ => ⟨S8192x512, .bf16⟩
  | .hbm, ⟨5, _⟩ => ⟨S8192x512, .bf16⟩
  | .hbm, ⟨6, _⟩ => ⟨S9x6x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x1024x4096, .f32⟩
  | .hbm, ⟨12, _⟩ => ⟨S1x4096x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x1024, .f32⟩
  | .hbm, ⟨20, _⟩ => ⟨S1024x4096, .f32⟩
  | .hbm, ⟨21, _⟩ => ⟨S4096x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1024x1024, .bf16⟩
  | .local _ .vmem, ⟨22, _⟩ => ⟨S1024x4096, .bf16⟩
  | .local _ .vmem, ⟨23, _⟩ => ⟨S4096x1024, .bf16⟩
  | .local _ .vmem, ⟨24, _⟩ => ⟨S4x512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c16_i32 : BitVec 32 := 16#32
  let v0 : BitVec 1 := Scalar.cmpi .slt arg0 c16_i32
  let v5 : BitVec 1 := Scalar.andi v4 v0
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v8 : BitVec 1 := Scalar.xori v0 v_true
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c0_i32 : BitVec 32 := 0#32
  let v2 : BitVec 32 := Scalar.maxsi v1 c0_i32
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutReferenceIdeal.lean ====
abbrev S32x256x1024 : Shape := ⟨3, ![32, 256, 1024]⟩
abbrev S8192x512 : Shape := ⟨2, ![8192, 512]⟩
abbrev S8x1024x1024 : Shape := ⟨3, ![8, 1024, 1024]⟩
abbrev S9x6x1024 : Shape := ⟨3, ![9, 6, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x6x1024 : Shape := ⟨3, ![1, 6, 1024]⟩
abbrev S1x1x1024 : Shape := ⟨3, ![1, 1, 1024]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1024x4096 : Shape := ⟨2, ![1024, 4096]⟩
abbrev S32x256x4096 : Shape := ⟨3, ![32, 256, 4096]⟩
abbrev S4096x1024 : Shape := ⟨2, ![4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x4096 : Shape := ⟨3, ![8, 1024, 4096]⟩

abbrev nBuf : Space → Nat
  | .hbm => 195
  | .vmem => 0
  | .smem => 0
  | _ => 0

abbrev hbmTy0_0 (i : Nat) : BufTy := match i % 128 with
  | 0 => ⟨S32x256x1024, .f32⟩
  | 1 => ⟨S8192x512, .bf16⟩
  | 2 => ⟨S8192x512, .bf16⟩
  | 3 => ⟨S8x1024x1024, .f32⟩
  | 4 => ⟨S8192x512, .bf16⟩
  | 5 => ⟨S8192x512, .bf16⟩
  | 6 => ⟨S9x6x1024, .f32⟩
  | 7 => ⟨S1x1024, .f32⟩
  | 8 => ⟨S1x1024, .f32⟩
  | 9 => ⟨S1x1024, .f32⟩
  | 10 => ⟨S1x1024x1024, .f32⟩
  | 11 => ⟨S1x1024x4096, .f32⟩
  | 12 => ⟨S1x4096x1024, .f32⟩
  | 13 => ⟨S1x6x1024, .f32⟩
  | 14 => ⟨S1x1x1024, .f32⟩
  | 15 => ⟨S1x1024, .f32⟩
  | 16 => ⟨S1x1x1024, .f32⟩
  | 17 => ⟨S1x1x1024, .f32⟩
  | 18 => ⟨S1x1024, .f32⟩
  | 19 => ⟨S1x1x1024, .f32⟩
  | 20 => ⟨S1x1x1024, .f32⟩
  | 21 => ⟨S1x1024, .f32⟩
  | 22 => ⟨S1x1x1024, .f32⟩
  | 23 => ⟨S1x1x1024, .f32⟩
  | 24 => ⟨S1x1024, .f32⟩
  | 25 => ⟨S1x1x1024, .f32⟩
  | 26 => ⟨S8192x1024, .bf16⟩
  | 27 => ⟨S8192x1024, .f32⟩
  | 28 => ⟨S32x256x1024, .f32⟩
  | 29 => ⟨S1024x1024, .f32⟩
  | 30 => ⟨S32x256x1024, .f32⟩
  | 31 => ⟨S1024, .f32⟩
  | 32 => ⟨S32x256x1024, .f32⟩
  | 33 => ⟨S_, .f32⟩
  | 34 => ⟨S32x256, .f32⟩
  | 35 => ⟨S32x256x1, .f32⟩
  | 36 => ⟨S_, .f32⟩
  | 37 => ⟨S32x256x1, .f32⟩
  | 38 => ⟨S32x256x1, .f32⟩
  | 39 => ⟨S_, .f32⟩
  | 40 => ⟨S32x256x1, .f32⟩
  | 41 => ⟨S32x256x1, .f32⟩
  | 42 => ⟨S32x256x1, .f32⟩
  | 43 => ⟨S32x256x1024, .f32⟩
  | 44 => ⟨S32x256x1024, .f32⟩
  | 45 => ⟨S1x1x1024, .f32⟩
  | 46 => ⟨S32x256x1024, .f32⟩
  | 47 => ⟨S32x256x1024, .f32⟩
  | 48 => ⟨S32x256x1024, .f32⟩
  | 49 => ⟨S32x256x1024, .f32⟩
  | 50 => ⟨S32x256x1024, .f32⟩
  | 51 => ⟨S1024, .f32⟩
  | 52 => ⟨S32x256x1024, .f32⟩
  | 53 => ⟨S_, .f32⟩
  | 54 => ⟨S32x256, .f32⟩
  | 55 => ⟨S32x256x1, .f32⟩
  | 56 => ⟨S_, .f32⟩
  | 57 => ⟨S32x256x1, .f32⟩
  | 58 => ⟨S32x256x1, .f32⟩
  | 59 => ⟨S_, .f32⟩
  | 60 => ⟨S32x256x1, .f32⟩
  | 61 => ⟨S32x256x1, .f32⟩
  | 62 => ⟨S32x256x1, .f32⟩
  | 63 => ⟨S32x256x1024, .f32⟩
  | 64 => ⟨S32x256x1024, .f32⟩
  | 65 => ⟨S1x1x1024, .f32⟩
  | 66 => ⟨S32x256x1024, .f32⟩
  | 67 => ⟨S32x256x1024, .f32⟩
  | 68 => ⟨S_, .f32⟩
  | 69 => ⟨S1x1x1024, .f32⟩
  | 70 => ⟨S1x1x1024, .f32⟩
  | 71 => ⟨S32x256x1024, .f32⟩
  | 72 => ⟨S32x256x1024, .f32⟩
  | 73 => ⟨S32x256x1024, .f32⟩
  | 74 => ⟨S32x256x1024, .f32⟩
  | 75 => ⟨S1024x4096, .f32⟩
  | 76 => ⟨S32x256x4096, .f32⟩
  | 77 => ⟨S_, .f32⟩
  | 78 => ⟨S32x256x4096, .f32⟩
  | 79 => ⟨S32x256x4096, .f32⟩
  | 80 => ⟨S32x256x4096, .f32⟩
  | 81 => ⟨S4096x1024, .f32⟩
  | 82 => ⟨S32x256x1024, .f32⟩
  | 83 => ⟨S1024, .f32⟩
  | 84 => ⟨S32x256x1024, .f32⟩
  | 85 => ⟨S_, .f32⟩
  | 86 => ⟨S32x256, .f32⟩
  | 87 => ⟨S32x256x1, .f32⟩
  | 88 => ⟨S_, .f32⟩
  | 89 => ⟨S32x256x1, .f32⟩
  | 90 => ⟨S32x256x1, .f32⟩
  | 91 => ⟨S_, .f32⟩
  | 92 => ⟨S32x256x1, .f32⟩
  | 93 => ⟨S32x256x1, .f32⟩
  | 94 => ⟨S32x256x1, .f32⟩
  | 95 => ⟨S32x256x1024, .f32⟩
  | 96 => ⟨S32x256x1024, .f32⟩
  | 97 => ⟨S1x1x1024, .f32⟩
  | 98 => ⟨S32x256x1024, .f32⟩
  | 99 => ⟨S32x256x1024, .f32⟩
  | 100 => ⟨S32x256x1024, .f32⟩
  | 101 => ⟨S32x256x1024, .f32⟩
  | 102 => ⟨S32x256x1024, .f32⟩
  | 103 => ⟨S8192x1024, .f32⟩
  | 104 => ⟨S8x6x1024, .f32⟩
  | 105 => ⟨S8x1x1024, .f32⟩
  | 106 => ⟨S8x1024, .f32⟩
  | 107 => ⟨S8x1x1024, .f32⟩
  | 108 => ⟨S8x1x1024, .f32⟩
  | 109 => ⟨S8x1024, .f32⟩
  | 110 => ⟨S8x1x1024, .f32⟩
  | 111 => ⟨S8x1x1024, .f32⟩
  | 112 => ⟨S8x1024, .f32⟩
  | 113 => ⟨S8x1x1024, .f32⟩
  | 114 => ⟨S8x1x1024, .f32⟩
  | 115 => ⟨S8x1024, .f32⟩
  | 116 => ⟨S8x1x1024, .f32⟩
  | 117 => ⟨S8192x1024, .bf16⟩
  | 118 => ⟨S8192x1024, .f32⟩
  | 119 => ⟨S8x1024x1024, .f32⟩
  | 120 => ⟨S1024x1024, .f32⟩
  | 121 => ⟨S8x1024x1024, .f32⟩
  | 122 => ⟨S1024, .f32⟩
  | 123 => ⟨S8x1024x1024, .f32⟩
  | 124 => ⟨S_, .f32⟩
  | 125 => ⟨S8x1024, .f32⟩
  | 126 => ⟨S8x1024x1, .f32⟩
  | 127 => ⟨S_, .f32⟩
  | _ => ⟨S32x256x1024, .f32⟩

abbrev hbmTy0_1 (i : Nat) : BufTy := match i % 128 with
  | 0 => ⟨S8x1024x1, .f32⟩
  | 1 => ⟨S8x1024x1, .f32⟩
  | 2 => ⟨S_, .f32⟩
  | 3 => ⟨S8x1024x1, .f32⟩
  | 4 => ⟨S8x1024x1, .f32⟩
  | 5 => ⟨S8x1024x1, .f32⟩
  | 6 => ⟨S8x1024x1024, .f32⟩
  | 7 => ⟨S8x1024x1024, .f32⟩
  | 8 => ⟨S1x1x1024, .f32⟩
  | 9 => ⟨S8x1024x1024, .f32⟩
  | 10 => ⟨S8x1024x1024, .f32⟩
  | 11 => ⟨S8x1024x1024, .f32⟩
  | 12 => ⟨S8x1024x1024, .f32⟩
  | 13 => ⟨S8x1024x1024, .f32⟩
  | 14 => ⟨S1024, .f32⟩
  | 15 => ⟨S8x1024x1024, .f32⟩
  | 16 => ⟨S_, .f32⟩
  | 17 => ⟨S8x1024, .f32⟩
  | 18 => ⟨S8x1024x1, .f32⟩
  | 19 => ⟨S_, .f32⟩
  | 20 => ⟨S8x1024x1, .f32⟩
  | 21 => ⟨S8x1024x1, .f32⟩
  | 22 => ⟨S_, .f32⟩
  | 23 => ⟨S8x1024x1, .f32⟩
  | 24 => ⟨S8x1024x1, .f32⟩
  | 25 => ⟨S8x1024x1, .f32⟩
  | 26 => ⟨S8x1024x1024, .f32⟩
  | 27 => ⟨S8x1024x1024, .f32⟩
  | 28 => ⟨S1x1x1024, .f32⟩
  | 29 => ⟨S8x1024x1024, .f32⟩
  | 30 => ⟨S8x1024x1024, .f32⟩
  | 31 => ⟨S_, .f32⟩
  | 32 => ⟨S8x1x1024, .f32⟩
  | 33 => ⟨S8x1x1024, .f32⟩
  | 34 => ⟨S8x1024x1024, .f32⟩
  | 35 => ⟨S8x1024x1024, .f32⟩
  | 36 => ⟨S8x1024x1024, .f32⟩
  | 37 => ⟨S8x1024x1024, .f32⟩
  | 38 => ⟨S1024x4096, .f32⟩
  | 39 => ⟨S8x1024x4096, .f32⟩
  | 40 => ⟨S_, .f32⟩
  | 41 => ⟨S8x1024x4096, .f32⟩
  | 42 => ⟨S8x1024x4096, .f32⟩
  | 43 => ⟨S8x1024x4096, .f32⟩
  | 44 => ⟨S4096x1024, .f32⟩
  | 45 => ⟨S8x1024x1024, .f32⟩
  | 46 => ⟨S1024, .f32⟩
  | 47 => ⟨S8x1024x1024, .f32⟩
  | 48 => ⟨S_, .f32⟩
  | 49 => ⟨S8x1024, .f32⟩
  | 50 => ⟨S8x1024x1, .f32⟩
  | 51 => ⟨S_, .f32⟩
  | 52 => ⟨S8x1024x1, .f32⟩
  | 53 => ⟨S8x1024x1, .f32⟩
  | 54 => ⟨S_, .f32⟩
  | 55 => ⟨S8x1024x1, .f32⟩
  | 56 => ⟨S8x1024x1, .f32⟩
  | 57 => ⟨S8x1024x1, .f32⟩
  | 58 => ⟨S8x1024x1024, .f32⟩
  | 59 => ⟨S8x1024x1024, .f32⟩
  | 60 => ⟨S1x1x1024, .f32⟩
  | 61 => ⟨S8x1024x1024, .f32⟩
  | 62 => ⟨S8x1024x1024, .f32⟩
  | 63 => ⟨S8x1024x1024, .f32⟩
  | 64 => ⟨S8x1024x1024, .f32⟩
  | 65 => ⟨S8x1024x1024, .f32⟩
  | 66 => ⟨S8192x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_9 : Ref sig .tc := ⟨.hbm, 124, rfl⟩
abbrev main_v99 : Ref sig .tc := ⟨.hbm, 125, rfl⟩
abbrev main_v100 : Ref sig .tc := ⟨.hbm, 126, rfl⟩
abbrev main_cst_10 : Ref sig .tc := ⟨.hbm, 127, rfl⟩
abbrev main_v101 : Ref sig .tc := ⟨.hbm, 128, rfl⟩
abbrev main_v102 : Ref sig .tc := ⟨.hbm, 129, rfl⟩
abbrev main_cst_11 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_12 : Ref sig .tc := ⟨.hbm, 144, rfl⟩
abbrev main_v116 : Ref sig .tc := ⟨.hbm, 145, rfl⟩
abbrev main_v117 : Ref sig .tc := ⟨.hbm, 146, rfl⟩
abbrev main_cst_13 : Ref sig .tc := ⟨.hbm, 147, rfl⟩
abbrev main_v118 : Ref sig .tc := ⟨.hbm, 148, rfl⟩
abbrev main_v119 : Ref sig .tc := ⟨.hbm, 149, rfl⟩
abbrev main_cst_14 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_15 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_call1_cst : Ref sig .tc := ⟨.hbm, 168, rfl⟩
abbrev main_call1_v0 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_16 : Ref sig .tc := ⟨.hbm, 176, rfl⟩
abbrev main_v142 : Ref sig .tc := ⟨.hbm, 177, rfl⟩
abbrev main_v143 : Ref sig .tc := ⟨.hbm, 178, rfl⟩
abbrev main_cst_17 : Ref sig .tc := ⟨.hbm, 179, rfl⟩
abbrev main_v144 : Ref sig .tc := ⟨.hbm, 180, rfl⟩
abbrev main_v145 : Ref sig .tc := ⟨.hbm, 181, rfl⟩
abbrev main_cst_18 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩

abbrev nD : Nat := 1
abbrev τ : Topo := Topo.v7x

variable {F : FTy → Type} [FloatOps F]
-- ==== Proof.Attention.lean ====
module
public import Idealize.ShloMosaic.Lib.Pipeline.ValueKit
public import Idealize.ShloMosaic.Lib.IdealHost

/-! The mathematics of one head of the differential attention, on plain functions, in the two readings of it:
the kernel sums 128 masked lanes for each of the two score tables and divides after the product with the
values; the reference sums 64 lanes and divides before. -/

@[expose] public section
noncomputable section
namespace Cert.Attention
open Idealize.ShloMosaic

/-! ### The shared parts -/

/-- One entry of a token's row after the root-mean-square norm, its scale and the modulation. -/
def normed (x g sc sh : Fin 1024 → EReal) (k : Fin 1024) : EReal :=
  x k * Ideal.rsqrt (Ideal.div (∑ j, x j * x j) (Ideal.ofBits .f32 1149239296#32) + Ideal.ofBits .f32 897988541#32)
    * g k * (1 + sc k) + sh k

/-- One entry of the projection of a normed row. -/
def proj (x g sc sh w : Fin 1024 → EReal) : EReal := ∑ k, normed x g sc sh k * w k

/-- The weight of the second score table. -/
def lam (a b c d : Fin 64 → EReal) : EReal :=
  Ideal.exp (∑ i, a i * b i) - Ideal.exp (∑ i, c i * d i) + Ideal.ofBits .f32 1045220557#32

/-- A head's output after its norm, scaled. -/
def headNorm (o dn : Fin 128 → EReal) (c : Fin 128) : EReal :=
  o c * Ideal.rsqrt (Ideal.div (∑ j, o j * o j) (Ideal.ofBits .f32 1124073472#32) + Ideal.ofBits .f32 897988541#32)
    * dn c * Ideal.ofBits .f32 1061997773#32

/-- The greatest score, over −∞. -/
def top (s : Fin 256 → EReal) : EReal := Finset.fold max (Ideal.ofBits .f32 4286578688#32) s Finset.univ

/-! ### The kernel's reading -/

/-- A score as the kernel takes it: 128 lanes, of which a comparison of the lane number keeps half. -/
def laneScore (p : CmpIPredicate) (q : Fin 128 → EReal) (k : Fin 256 → Fin 128 → EReal) (j : Fin 256) : EReal :=
  ∑ x : Fin 128, Scalar.select (IntOp.cmpi p (BitVec.ofNat 32 (x : ℕ)) 64#32)
    (q x * Ideal.ofBits .f32 1040187392#32 * k j x) 0

/-- A softmax applied to values, divided last. -/
def lateDiv (s v : Fin 256 → EReal) : EReal :=
  Ideal.div (∑ j, Ideal.exp (s j - top s) * v j) (∑ j, Ideal.exp (s j - top s))

/-- The kernel's mixture of the two softmaxes. -/
def lateMix (l : EReal) (q : Fin 128 → EReal) (k v : Fin 256 → Fin 128 → EReal) (c : Fin 128) : EReal :=
  lateDiv (laneScore .slt q k) (fun j => v j c) - l * lateDiv (laneScore .sge q k) (fun j => v j c)

/-! ### The reference's reading -/

/-- The lower half of 128 lanes. -/
def lo (d : Fin 64) : Fin 128 := ⟨d, by omega⟩
/-- The upper half of 128 lanes. -/
def hi (d : Fin 64) : Fin 128 := ⟨64 + d, by omega⟩

/-- A score over the lanes that `f` names. -/
def score (f : Fin 64 → Fin 128) (q : Fin 128 → EReal) (k : Fin 256 → Fin 128 → EReal) (j : Fin 256) : EReal :=
  (∑ d, q (f d) * k j (f d)) * Ideal.ofBits .f32 1040187392#32

/-- A softmax, its maximum taken over −∞ once more. -/
def soft (s : Fin 256 → EReal) (j : Fin 256) : EReal :=
  Ideal.div (Ideal.exp (s j - max (Ideal.ofBits .f32 4286578688#32) (top s)))
    (∑ i, Ideal.exp (s i - max (Ideal.ofBits .f32 4286578688#32) (top s)))

/-- The reference's mixture of the two softmaxes. -/
def earlyMix (l : EReal) (q : Fin 128 → EReal) (k v : Fin 256 → Fin 128 → EReal) (c : Fin 128) : EReal :=
  ∑ j, (soft (score lo q k) j - l * soft (score hi q k) j) * v j c

/-! ### Finite values -/

/-- A value that is neither an infinity nor a NaN. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem coe_sum' {n : ℕ} (f : Fin n → ℝ) : (∑ i, (f i : EReal)) = ((∑ i, f i : ℝ) : EReal) := by
  have h : ∀ s : Finset (Fin n), (∑ i ∈ s, (f i : EReal)) = ((∑ i ∈ s, f i : ℝ) : EReal) := fun s => by
    induction s using Finset.cons_induction with
    | empty => simp
    | cons a s ha ih => rw [Finset.sum_cons, Finset.sum_cons, ih, EReal.coe_add]
  exact h _

theorem Real'.sum {n : ℕ} {f : Fin n → EReal} (h : ∀ i, Real' (f i)) : Real' (∑ i, f i) := by
  choose g hg using h
  exact ⟨∑ i, g i, by rw [← coe_sum']; exact Finset.sum_congr rfl fun i _ => hg i⟩

theorem Real'.exp {x : EReal} (hx : Real' x) : Real' (Ideal.exp x) := by
  obtain ⟨a, rfl⟩ := hx; exact ⟨Real.exp a, Ideal.exp_coe a⟩

/-- A pattern with neither a zero nor a full exponent and no sign is a positive number. -/
theorem const_pos (b : BitVec 32) (h0 : (b.extractLsb' 31 1 == 1#1) = false) (h1 : (b.extractLsb' 23 8).toNat ≠ 0)
    (h2 : (b.extractLsb' 23 8).toNat ≠ 255) : ∃ r : ℝ, 0 < r ∧ Ideal.ofBits .f32 b = (r : EReal) := by
  refine ⟨1 * (2 ^ 23 + (b.extractLsb' 0 23).toNat : ℕ) * (2 : ℝ) ^ (((b.extractLsb' 23 8).toNat : ℤ) - (2 ^ (8 - 1) - 1) - 23),
    by positivity, ?_⟩
  show Ideal.ieee 8 23 b = _
  unfold Ideal.ieee
  simp only [Nat.reduceAdd, h0, Bool.false_eq_true, if_false, Nat.reducePow, Nat.reduceSub, if_neg h1, if_neg h2]
  norm_cast

theorem eps_pos : ∃ r : ℝ, 0 < r ∧ Ideal.ofBits .f32 897988541#32 = (r : EReal) :=
  const_pos _ (by decide) (by decide) (by decide)
theorem dim_pos : ∃ r : ℝ, 0 < r ∧ Ideal.ofBits .f32 1149239296#32 = (r : EReal) :=
  const_pos _ (by decide) (by decide) (by decide)
theorem eighth_pos : ∃ r : ℝ, 0 < r ∧ Ideal.ofBits .f32 1040187392#32 = (r : EReal) :=
  const_pos _ (by decide) (by decide) (by decide)
theorem init_pos : ∃ r : ℝ, 0 < r ∧ Ideal.ofBits .f32 1045220557#32 = (r : EReal) :=
  const_pos _ (by decide) (by decide) (by decide)

theorem bot_const : Ideal.ofBits .f32 4286578688#32 = (⊥ : EReal) := by
  show Ideal.ieee 8 23 (4286578688#32) = ⊥
  unfold Ideal.ieee
  have a : ((4286578688#32).extractLsb' 31 1 == 1#1) = true := by decide
  have b : ((4286578688#32).extractLsb' 23 8).toNat = 255 := by decide
  have c : ((4286578688#32).extractLsb' 0 23).toNat = 0 := by decide
  simp [a, b, c]

/-- The norm of a finite row is finite: the root is of a positive number. -/
theorem normed_real {x g sc sh : Fin 1024 → EReal} (hx : ∀ i, Real' (x i)) (hg : ∀ i, Real' (g i))
    (hc : ∀ i, Real' (sc i)) (hs : ∀ i, Real' (sh i)) (k : Fin 1024) : Real' (normed x g sc sh k) := by
  obtain ⟨e, he, hee⟩ := eps_pos
  obtain ⟨n, hn, hnn⟩ := dim_pos
  choose x' hx' using hx
  have hq : Real' (Ideal.rsqrt (Ideal.div (∑ j, x j * x j) (Ideal.ofBits .f32 1149239296#32)
      + Ideal.ofBits .f32 897988541#32)) := by
    have : (∑ j, x j * x j) = ((∑ j, x' j * x' j : ℝ) : EReal) := by
      rw [← coe_sum']; exact Finset.sum_congr rfl fun j _ => by rw [hx', EReal.coe_mul]
    have hp : 0 < (∑ j, x' j * x' j) * (1 / n) + e :=
      add_pos_of_nonneg_of_pos (mul_nonneg (Finset.sum_nonneg fun j _ => mul_self_nonneg _) (by positivity)) he
    rw [this, hnn, hee, Ideal.div_coe hn.ne', ← EReal.coe_mul, ← EReal.coe_add, Ideal.rsqrt_coe, if_neg hp.not_gt, if_neg hp.ne']
    exact ⟨_, rfl⟩
  exact (((Real'.mul ⟨_, hx' k⟩ hq).mul (hg k)).mul (Real'.add ⟨1, EReal.coe_one.symm⟩ (hc k))).add (hs k)

theorem proj_real {x g sc sh w : Fin 1024 → EReal} (hx : ∀ i, Real' (x i)) (hg : ∀ i, Real' (g i))
    (hc : ∀ i, Real' (sc i)) (hs : ∀ i, Real' (sh i)) (hw : ∀ i, Real' (w i)) : Real' (proj x g sc sh w) :=
  Real'.sum fun k => (normed_real hx hg hc hs k).mul (hw k)

theorem lam_real {a b c d : Fin 64 → EReal} (ha : ∀ i, Real' (a i)) (hb : ∀ i, Real' (b i)) (hc : ∀ i, Real' (c i))
    (hd : ∀ i, Real' (d i)) : Real' (lam a b c d) := by
  obtain ⟨e, -, he⟩ := init_pos
  exact ((Real'.sum fun i => (ha i).mul (hb i)).exp.sub (Real'.sum fun i => (hc i).mul (hd i)).exp).add ⟨e, he⟩

theorem score_real {f : Fin 64 → Fin 128} {q : Fin 128 → EReal} {k : Fin 256 → Fin 128 → EReal} (hq : ∀ i, Real' (q i))
    (hk : ∀ j i, Real' (k j i)) (j : Fin 256) : Real' (score f q k j) := by
  obtain ⟨e, -, he⟩ := eighth_pos
  exact (Real'.sum fun d => (hq _).mul (hk _ _)).mul ⟨e, he⟩

/-! ### The two readings of a score -/

theorem sum_mul_real {n : ℕ} (f : Fin n → EReal) (r : ℝ) (hr : 0 ≤ r) : (∑ i, f i) * (r : EReal) = ∑ i, f i * (r : EReal) := by
  have h : ∀ s : Finset (Fin n), (∑ i ∈ s, f i) * (r : EReal) = ∑ i ∈ s, f i * (r : EReal) := fun s => by
    induction s using Finset.cons_induction with
    | empty => simp
    | cons a s ha ih =>
      rw [Finset.sum_cons, Finset.sum_cons, EReal.right_distrib_of_nonneg_of_ne_top (by exact_mod_cast hr) (EReal.coe_ne_top r), ih]
  exact h _

theorem sum_halves (f : Fin 128 → EReal) : ∑ x, f x = (∑ d, f (lo d)) + ∑ d, f (hi d) :=
  Fin.sum_univ_add (a := 64) (b := 64) f

theorem select_keep (x y : EReal) : Scalar.select 1#1 x y = x := rfl
theorem select_drop (x y : EReal) : Scalar.select 0#1 x y = y := rfl

theorem slt_lo : ∀ d : Fin 64, IntOp.cmpi .slt (BitVec.ofNat 32 (lo d : ℕ)) 64#32 = 1#1 := by decide +kernel
theorem slt_hi : ∀ d : Fin 64, IntOp.cmpi .slt (BitVec.ofNat 32 (hi d : ℕ)) 64#32 = 0#1 := by decide +kernel
theorem sge_lo : ∀ d : Fin 64, IntOp.cmpi .sge (BitVec.ofNat 32 (lo d : ℕ)) 64#32 = 0#1 := by decide +kernel
theorem sge_hi : ∀ d : Fin 64, IntOp.cmpi .sge (BitVec.ofNat 32 (hi d : ℕ)) 64#32 = 1#1 := by decide +kernel

theorem laneScore_slt (q : Fin 128 → EReal) (k : Fin 256 → Fin 128 → EReal) : laneScore .slt q k = score lo q k := by
  obtain ⟨e, he, hee⟩ := eighth_pos
  funext j
  unfold laneScore score
  rw [sum_halves]
  simp only [slt_lo, slt_hi, select_keep, select_drop, Finset.sum_const_zero, add_zero, hee]
  rw [sum_mul_real _ _ he.le]
  exact Finset.sum_congr rfl fun d _ => mul_right_comm _ _ _

theorem laneScore_sge (q : Fin 128 → EReal) (k : Fin 256 → Fin 128 → EReal) : laneScore .sge q k = score hi q k := by
  obtain ⟨e, he, hee⟩ := eighth_pos
  funext j
  unfold laneScore score
  rw [sum_halves]
  simp only [sge_lo, sge_hi, select_keep, select_drop, Finset.sum_const_zero, zero_add, hee]
  rw [sum_mul_real _ _ he.le]
  exact Finset.sum_congr rfl fun d _ => mul_right_comm _ _ _

/-! ### Dividing late and early -/

theorem top_real {s : Fin 256 → EReal} (h : ∀ j, Real' (s j)) : Real' (top s) := by
  choose s' hs using h
  have key : ∀ t : Finset (Fin 256), t.Nonempty → Real' (Finset.fold max (⊥ : EReal) s t) := fun t ht => by
    induction ht using Finset.Nonempty.cons_induction with
    | singleton a => exact ⟨s' a, by rw [Finset.fold_singleton, hs]; exact max_eq_left bot_le⟩
    | cons a t ha _ ih =>
      obtain ⟨r, hr⟩ := ih
      exact ⟨max (s' a) r, by rw [Finset.fold_cons, hr, hs, ← EReal.coe_strictMono.monotone.map_max]⟩
  unfold top; rw [bot_const]; exact key _ ⟨0, Finset.mem_univ _⟩

/-- The weights of a softmax of finite scores: positive numbers. -/
theorem weights {s : Fin 256 → EReal} (h : ∀ j, Real' (s j)) :
    ∃ w : Fin 256 → ℝ, (∀ j, 0 < w j) ∧ ∀ j, Ideal.exp (s j - top s) = (w j : EReal) := by
  obtain ⟨t, ht⟩ := top_real h
  choose s' hs using h
  exact ⟨fun j => Real.exp (s' j - t), fun j => Real.exp_pos _, fun j => by rw [ht, hs, ← EReal.coe_sub, Ideal.exp_coe]⟩

theorem mix_eq {l : EReal} {q : Fin 128 → EReal} {k v : Fin 256 → Fin 128 → EReal} (hl : Real' l) (hq : ∀ i, Real' (q i))
    (hk : ∀ j i, Real' (k j i)) (hv : ∀ j i, Real' (v j i)) : lateMix l q k v = earlyMix l q k v := by
  funext c
  obtain ⟨a, ha, ha'⟩ := weights (s := score lo q k) fun j => score_real hq hk j
  obtain ⟨b, hb, hb'⟩ := weights (s := score hi q k) fun j => score_real hq hk j
  obtain ⟨l, rfl⟩ := hl
  choose v' hv' using hv
  have hA : 0 < ∑ j, a j := Finset.sum_pos (fun j _ => ha j) ⟨0, Finset.mem_univ _⟩
  have hB : 0 < ∑ j, b j := Finset.sum_pos (fun j _ => hb j) ⟨0, Finset.mem_univ _⟩
  unfold lateMix earlyMix lateDiv soft
  rw [laneScore_slt, laneScore_sge]
  simp only [bot_const, bot_le, max_eq_right, ha', hb', hv', ← EReal.coe_mul, coe_sum', Ideal.div_coe hA.ne', Ideal.div_coe hB.ne',
    ← EReal.coe_sub]
  congr 1
  rw [Finset.sum_mul, Finset.sum_mul, Finset.mul_sum, ← Finset.sum_sub_distrib]
  exact Finset.sum_congr rfl fun j _ => by ring

end Cert.Attention
end
-- ==== Proof.Tile.lean ====
module
public import proofs.«01_k».proof.Proof.Gen.KernelIdeal.Value
public import Idealize.ShloMosaic.Lib.Pipeline.ValueKit
public import Idealize.ShloMosaic.Lib.Pipeline.ReadBack
public import proofs.«01_k».proof.Proof.Attention
@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)
open Cert.Attention
variable (m : (ℓ : Loc nD τ sig) → Buf (Elt Ideal) ℓ)

/-- A load of part of the newest store's rectangle reads that store's payload. -/
theorem readCov_part {sig : RefSig} {κ : Kind} {sp : Space} {Val : EltTy → Type} [∀ e, Nonempty (Val e)] {e : EltTy} (v : View sig κ sp S1024x1536 e)
    (r0 c : ℕ) (inb inb') (w : (Rect.unit (s := S1024x1536) ![r0, 1024] ![256, 512] inb).shape.Idx → Val e) (L : List (View.Piece Val S1024x1536 e))
    (hc : 1024 ≤ c) (hc' : c + 128 ≤ 1536) :
    v.readCov (⟨Rect.unit ![r0, 1024] ![256, 512] inb, w⟩ :: L) (Rect.unit (s := S1024x1536) ![r0, c] ![256, 128] inb').toLoadRect
      = View.ld w (Rect.unit (s := (Rect.unit (s := S1024x1536) ![r0, 1024] ![256, 512] inb).shape) ![0, c - 1024] ![256, 128]
          (by intro a; fin_cases a <;> simp <;> omega)) := by
  rw [View.readCov_eq_canon']
  funext j
  have : (Rect.unit (s := S1024x1536) ![r0, c] ![256, 128] inb').toLoadRect.idx j
      = (Rect.unit (s := S1024x1536) ![r0, 1024] ![256, 512] inb).emb ((Rect.unit (s := (Rect.unit (s := S1024x1536) ![r0, 1024] ![256, 512] inb).shape) ![0, c - 1024] ![256, 128]
          (by intro a; fin_cases a <;> simp <;> omega)).toLoadRect.idx j) := by
    funext a; apply Fin.ext; fin_cases a <;> simp <;> omega
  rw [this, View.canon_cons_emb]

/-- Column `j` of the projection of row `r` of a tile of tokens. -/
def PJ (X : Vec Ideal S1024x1024 .f32) (M : Vec Ideal S1x6x1024 .f32) (G : Vec Ideal S1x1024 .f32) (W : Vec Ideal S1024x1536 .bf16)
    (r : Fin 1024) (j : Fin 1536) : EReal :=
  proj (fun k => X (ix2 r k)) (fun k => G (ix2 0 k)) (fun k => M (ix3 0 1 k)) (fun k => M (ix3 0 0 k)) (fun k => W (ix2 k j))

variable (X : Vec Ideal S1024x1024 .f32) (M : Vec Ideal S1x6x1024 .f32) (G : Vec Ideal S1x1024 .f32) (W : Vec Ideal S1024x1536 .bf16)

/-- The same, written out, at equal coordinates. -/
theorem spelled (r' r : Fin 1024) (j' j : Fin 1536) (hr : (r' : ℕ) = r) (hj : (j' : ℕ) = j) :
    ∑ k, (X (ix2 r' k) * Ideal.rsqrt (Ideal.div (∑ l, X (ix2 r' l) * X (ix2 r' l))
      (Ideal.ofBits .f32 1149239296#32) + Ideal.ofBits .f32 897988541#32) * G (ix2 0 k)
      * (1 + M (ix3 0 1 k)) + M (ix3 0 0 k)) * W (ix2 k j') = PJ X M G W r j := by
  obtain rfl : r' = r := Fin.ext hr
  obtain rfl : j' = j := Fin.ext hj
  rfl

set_option maxHeartbeats 1000000 in
theorem keys (c : Dev nD) (t : Fin cfg0.N) (hX : iblk m c 0 t = X) (hM : iblk m c 1 t = M) (hG : iblk m c 2 t = G) (hW : X0_3 m c t = W)
    (y : S4x1x4x256x128.Idx) (r : Fin 1024) (j : Fin 1536)
    (hr : (r : ℕ) = 256 * y 0 + y 3) (hj : (j : ℕ) = 512 + (y 2 * 128 + y 4)) : (outsAt0 m c t).2.1 y = PJ X M G W r j := by
  unfold outsAt0
  frame_out
  rw [hX, hM, hG, hW]
  canon_tiles x h
  case piece0 => open_payloads; pointwise; exact spelled X M G W ⟨768 + x 3, by omega⟩ r ⟨896 + x 4, by omega⟩ j (by dsimp only; omega) (by dsimp only; omega)
  case piece1 => open_payloads; pointwise; exact spelled X M G W ⟨768 + x 3, by omega⟩ r ⟨768 + x 4, by omega⟩ j (by dsimp only; omega) (by dsimp only; omega)
  case piece2 => open_payloads; pointwise; exact spelled X M G W ⟨768 + x 3, by omega⟩ r ⟨640 + x 4, by omega⟩ j (by dsimp only; omega) (by dsimp only; omega)
  case piece3 => open_payloads; pointwise; exact spelled X M G W ⟨768 + x 3, by omega⟩ r ⟨512 + x 4, by omega⟩ j (by dsimp only; omega) (by dsimp only; omega)
  case piece4 => open_payloads; pointwise; exact spelled X M G W ⟨512 + x 3, by omega⟩ r ⟨896 + x 4, by omega⟩ j (by dsimp only; omega) (by dsimp only; omega)
  case piece5 => open_payloads; pointwise; exact spelled X M G W ⟨512 + x 3, by omega⟩ r ⟨768 + x 4, by omega⟩ j (by dsimp only; omega) (by dsimp only; omega)
  case piece6 => open_payloads; pointwise; exact spelled X M G W ⟨512 + x 3, by omega⟩ r ⟨640 + x 4, by omega⟩ j (by dsimp only; omega) (by dsimp only; omega)
  case piece7 => open_payloads; pointwise; exact spelled X M G W ⟨512 + x 3, by omega⟩ r ⟨512 + x 4, by omega⟩ j (by dsimp only; omega) (by dsimp only; omega)
  case piece8 => open_payloads; pointwise; exact spelled X M G W ⟨256 + x 3, by omega⟩ r ⟨896 + x 4, by omega⟩ j (by dsimp only; omega) (by dsimp only; omega)
  case piece9 => open_payloads; pointwise; exact spelled X M G W ⟨256 + x 3, by omega⟩ r ⟨768 + x 4, by omega⟩ j (by dsimp only; omega) (by dsimp only; omega)
  case piece10 => open_payloads; pointwise; exact spelled X M G W ⟨256 + x 3, by omega⟩ r ⟨640 + x 4, by omega⟩ j (by dsimp only; omega) (by dsimp only; omega)
  case piece11 => open_payloads; pointwise; exact spelled X M G W ⟨256 + x 3, by omega⟩ r ⟨512 + x 4, by omega⟩ j (by dsimp only; omega) (by dsimp only; omega)
  case piece12 => open_payloads; pointwise; exact spelled X M G W ⟨x 3, by omega⟩ r ⟨896 + x 4, by omega⟩ j (by dsimp only; omega) (by dsimp only; omega)
  case piece13 => open_payloads; pointwise; exact spelled X M G W ⟨x 3, by omega⟩ r ⟨768 + x 4, by omega⟩ j (by dsimp only; omega) (by dsimp only; omega)
  case piece14 => open_payloads; pointwise; exact spelled X M G W ⟨x 3, by omega⟩ r ⟨640 + x 4, by omega⟩ j (by dsimp only; omega) (by dsimp only; omega)
  case piece15 => open_payloads; pointwise; exact spelled X M G W ⟨x 3, by omega⟩ r ⟨512 + x 4, by omega⟩ j (by dsimp only; omega) (by dsimp only; omega)

set_option maxHeartbeats 1000000 in
theorem values (c : Dev nD) (t : Fin cfg0.N) (hX : iblk m c 0 t = X) (hM : iblk m c 1 t = M) (hG : iblk m c 2 t = G) (hW : X0_3 m c t = W)
    (y : S4x1x4x256x128.Idx) (r : Fin 1024) (j : Fin 1536)
    (hr : (r : ℕ) = 256 * y 0 + y 3) (hj : (j : ℕ) = 1024 + (y 2 * 128 + y 4)) : (outsAt0 m c t).2.2 y = PJ X M G W r j := by
  unfold outsAt0
  frame_out
  rw [hX, hM, hG, hW]
  canon_tiles x h
  case piece0 => open_payloads; pointwise; exact spelled X M G W ⟨768 + x 3, by omega⟩ r ⟨1024 + (384 + x 4), by omega⟩ j (by dsimp only; omega) (by dsimp only; omega)
  case piece1 => open_payloads; pointwise; exact spelled X M G W ⟨768 + x 3, by omega⟩ r ⟨1024 + (256 + x 4), by omega⟩ j (by dsimp only; omega) (by dsimp only; omega)
  case piece2 => open_payloads; pointwise; exact spelled X M G W ⟨768 + x 3, by omega⟩ r ⟨1024 + (128 + x 4), by omega⟩ j (by dsimp only; omega) (by dsimp only; omega)
  case piece3 => open_payloads; pointwise; exact spelled X M G W ⟨768 + x 3, by omega⟩ r ⟨1024 + x 4, by omega⟩ j (by dsimp only; omega) (by dsimp only; omega)
  case piece4 => open_payloads; pointwise; exact spelled X M G W ⟨512 + x 3, by omega⟩ r ⟨1024 + (384 + x 4), by omega⟩ j (by dsimp only; omega) (by dsimp only; omega)
  case piece5 => open_payloads; pointwise; exact spelled X M G W ⟨512 + x 3, by omega⟩ r ⟨1024 + (256 + x 4), by omega⟩ j (by dsimp only; omega) (by dsimp only; omega)
  case piece6 => open_payloads; pointwise; exact spelled X M G W ⟨512 + x 3, by omega⟩ r ⟨1024 + (128 + x 4), by omega⟩ j (by dsimp only; omega) (by dsimp only; omega)
  case piece7 => open_payloads; pointwise; exact spelled X M G W ⟨512 + x 3, by omega⟩ r ⟨1024 + x 4, by omega⟩ j (by dsimp only; omega) (by dsimp only; omega)
  case piece8 => open_payloads; pointwise; exact spelled X M G W ⟨256 + x 3, by omega⟩ r ⟨1024 + (384 + x 4), by omega⟩ j (by dsimp only; omega) (by dsimp only; omega)
  case piece9 => open_payloads; pointwise; exact spelled X M G W ⟨256 + x 3, by omega⟩ r ⟨1024 + (256 + x 4), by omega⟩ j (by dsimp only; omega) (by dsimp only; omega)
  case piece10 => open_payloads; pointwise; exact spelled X M G W ⟨256 + x 3, by omega⟩ r ⟨1024 + (128 + x 4), by omega⟩ j (by dsimp only; omega) (by dsimp only; omega)
  case piece11 => open_payloads; pointwise; exact spelled X M G W ⟨256 + x 3, by omega⟩ r ⟨1024 + x 4, by omega⟩ j (by dsimp only; omega) (by dsimp only; omega)
  case piece12 => open_payloads; pointwise; exact spelled X M G W ⟨x 3, by omega⟩ r ⟨1024 + (384 + x 4), by omega⟩ j (by dsimp only; omega) (by dsimp only; omega)
  case piece13 => open_payloads; pointwise; exact spelled X M G W ⟨x 3, by omega⟩ r ⟨1024 + (256 + x 4), by omega⟩ j (by dsimp only; omega) (by dsimp only; omega)
  case piece14 => open_payloads; pointwise; exact spelled X M G W ⟨x 3, by omega⟩ r ⟨1024 + (128 + x 4), by omega⟩ j (by dsimp only; omega) (by dsimp only; omega)
  case piece15 => open_payloads; pointwise; exact spelled X M G W ⟨x 3, by omega⟩ r ⟨1024 + x 4, by omega⟩ j (by dsimp only; omega) (by dsimp only; omega)

end Cert.KernelIdeal.Tile
end
-- ==== Proof.Head.lean ====
module
public import proofs.«01_k».proof.Proof.Tile
public import Idealize.ShloMosaic.Lib.IdealHost

/-! One head's output over a tile of the kernel: sixteen spellings of one and the same value, and what that value is. -/

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)
open Cert.Attention
variable (LL : FVec Ideal S1x1 .f32) (q k v : Vec Ideal S256x128 .bf16) (dn : Vec Ideal S1x128 .f32)

/-- A head's output as the kernel's last sequence and first head spell it. -/
def op : FVec Ideal S256x128 .bf16 :=
  k0_pay121 (F := Ideal) LL (k0_pay116 k0_pay2 k0_pay4 k v q) (k0_pay119 k0_pay3 k0_pay4 k v q) dn

theorem e0 : (k0_pay217 (F := Ideal) LL (k0_pay209 k0_pay4 v) (k0_pay210 k0_pay2 k q) (k0_pay211 k0_pay3 k q) dn) = op LL q k v dn := rfl

theorem e1 : (k0_pay216 (F := Ideal) (k0_pay212 LL (k0_pay205 k0_pay4 v) (k0_pay206 k0_pay2 k q) (k0_pay207 k0_pay3 k q)) (k0_pay213 dn) (k0_pay214 LL (k0_pay205 k0_pay4 v) (k0_pay206 k0_pay2 k q) (k0_pay207 k0_pay3 k q)) k0_pay215) = op LL q k v dn := rfl

theorem e2 : (k0_pay208 (F := Ideal) LL (k0_pay198 k0_pay4 v) (k0_pay203 (k0_pay198 k0_pay4 v) (k0_pay199 k0_pay2 k q) (k0_pay201 k0_pay2 k q)) (k0_pay204 k0_pay3 k q) dn) = op LL q k v dn := rfl

theorem e3 : (k0_pay202 (F := Ideal) LL (k0_pay197 (k0_pay190 k0_pay4 v) (k0_pay192 k0_pay2 k q)) (k0_pay200 (k0_pay190 k0_pay4 v) (k0_pay193 k0_pay3 k q)) dn) = op LL q k v dn := rfl

theorem e4 : (k0_pay196 (F := Ideal) LL (k0_pay191 (k0_pay182 k0_pay4 v) (k0_pay184 k0_pay3 k q)) (k0_pay194 (k0_pay182 k0_pay4 v) (k0_pay183 k0_pay2 k q)) (k0_pay195 (k0_pay182 k0_pay4 v) (k0_pay184 k0_pay3 k q)) dn) = op LL q k v dn := rfl

theorem e5 : (k0_pay189 (F := Ideal) (k0_pay185 LL (k0_pay178 k0_pay4 v) (k0_pay179 k0_pay2 k q) (k0_pay180 k0_pay3 k q)) (k0_pay186 dn) (k0_pay187 LL (k0_pay178 k0_pay4 v) (k0_pay179 k0_pay2 k q) (k0_pay180 k0_pay3 k q)) k0_pay188) = op LL q k v dn := rfl

theorem e6 : (k0_pay181 (F := Ideal) LL (k0_pay171 k0_pay4 v) (k0_pay176 (k0_pay171 k0_pay4 v) (k0_pay172 k0_pay2 k q) (k0_pay174 k0_pay2 k q)) (k0_pay177 k0_pay3 k q) dn) = op LL q k v dn := rfl

theorem e7 : (k0_pay175 (F := Ideal) LL (k0_pay170 (k0_pay163 k0_pay4 v) (k0_pay165 k0_pay2 k q)) (k0_pay173 (k0_pay163 k0_pay4 v) (k0_pay166 k0_pay3 k q)) dn) = op LL q k v dn := rfl

theorem e8 : (k0_pay169 (F := Ideal) LL (k0_pay164 (k0_pay155 k0_pay4 v) (k0_pay157 k0_pay3 k q)) (k0_pay167 (k0_pay155 k0_pay4 v) (k0_pay156 k0_pay2 k q)) (k0_pay168 (k0_pay155 k0_pay4 v) (k0_pay157 k0_pay3 k q)) dn) = op LL q k v dn := rfl

theorem e9 : (k0_pay162 (F := Ideal) (k0_pay158 LL (k0_pay151 k0_pay4 v) (k0_pay152 k0_pay2 k q) (k0_pay153 k0_pay3 k q)) (k0_pay159 dn) (k0_pay160 LL (k0_pay151 k0_pay4 v) (k0_pay152 k0_pay2 k q) (k0_pay153 k0_pay3 k q)) k0_pay161) = op LL q k v dn := rfl

theorem e10 : (k0_pay154 (F := Ideal) LL (k0_pay144 k0_pay4 v) (k0_pay149 (k0_pay144 k0_pay4 v) (k0_pay145 k0_pay2 k q) (k0_pay147 k0_pay2 k q)) (k0_pay150 k0_pay3 k q) dn) = op LL q k v dn := rfl

theorem e11 : (k0_pay148 (F := Ideal) LL (k0_pay143 (k0_pay136 k0_pay4 v) (k0_pay138 k0_pay2 k q)) (k0_pay146 (k0_pay136 k0_pay4 v) (k0_pay139 k0_pay3 k q)) dn) = op LL q k v dn := rfl

theorem e12 : (k0_pay142 (F := Ideal) LL (k0_pay137 (k0_pay128 k0_pay4 v) (k0_pay130 k0_pay3 k q)) (k0_pay140 (k0_pay128 k0_pay4 v) (k0_pay129 k0_pay2 k q)) (k0_pay141 (k0_pay128 k0_pay4 v) (k0_pay130 k0_pay3 k q)) dn) = op LL q k v dn := rfl

theorem e13 : (k0_pay135 (F := Ideal) (k0_pay131 LL (k0_pay124 k0_pay4 v) (k0_pay125 k0_pay2 k q) (k0_pay126 k0_pay3 k q)) (k0_pay132 dn) (k0_pay133 LL (k0_pay124 k0_pay4 v) (k0_pay125 k0_pay2 k q) (k0_pay126 k0_pay3 k q)) k0_pay134) = op LL q k v dn := rfl

theorem e14 : (k0_pay127 (F := Ideal) LL (k0_pay117 k0_pay4 v) (k0_pay122 (k0_pay117 k0_pay4 v) (k0_pay118 k0_pay2 k q) (k0_pay120 k0_pay2 k q)) (k0_pay123 k0_pay3 k q) dn) = op LL q k v dn := rfl

theorem e15 : (k0_pay121 (F := Ideal) LL (k0_pay116 k0_pay2 k0_pay4 k v q) (k0_pay119 k0_pay3 k0_pay4 k v q) dn) = op LL q k v dn := rfl

/-- The value at a row and a column. -/
theorem op_at (L : Vec Ideal S4x64 .f32) (i : S256x128.Idx) : op (k0_pay1 L) q k v dn i
    = headNorm (lateMix (lam (fun x => L (ix2 0 x)) (fun x => L (ix2 1 x)) (fun x => L (ix2 2 x)) (fun x => L (ix2 3 x)))
        (fun x => q (ix2 (i 0) x)) (fun j x => k (ix2 j x)) (fun j x => v (ix2 j x))) (fun e => dn (ix2 0 e)) (i 1) := by
  unfold op
  pointwise [k0_pay121, k0_pay1, k0_pay116, k0_pay2, k0_pay4, k0_pay119, k0_pay3, k0_pay115]
  rfl

/-- The same, the three tiles read by entries. -/
theorem op_of (L : Vec Ideal S4x64 .f32) (i : S256x128.Idx) (c : Fin 128) (hc : i 1 = c) (Q : Fin 128 → EReal) (K V : Fin 256 → Fin 128 → EReal)
    (hq : ∀ x, q (ix2 (i 0) x) = Q x) (hk : ∀ j x, k (ix2 j x) = K j x) (hv : ∀ j x, v (ix2 j x) = V j x) :
    op (k0_pay1 L) q k v dn i
    = headNorm (lateMix (lam (fun x => L (ix2 0 x)) (fun x => L (ix2 1 x)) (fun x => L (ix2 2 x)) (fun x => L (ix2 3 x))) Q K V)
        (fun e => dn (ix2 0 e)) c := by
  rw [op_at, hc, (funext hq : (fun x => q (ix2 (i 0) x)) = Q), (funext fun j => funext (hk j) : (fun j x => k (ix2 j x)) = K),
    (funext fun j => funext (hv j) : (fun j x => v (ix2 j x)) = V)]

end Cert.KernelIdeal.Tile
end
-- ==== Proof.Outs.lean ====
module
public import proofs.«01_k».proof.Proof.Head

/-! The attention output of one tile of the kernel. -/

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)
open Cert.Attention
variable (m : (ℓ : Loc nD τ sig) → Buf (Elt Ideal) ℓ)
variable (X : Vec Ideal S1024x1024 .f32) (M : Vec Ideal S1x6x1024 .f32) (G : Vec Ideal S1x1024 .f32) (W : Vec Ideal S1024x1536 .bf16)
  (L : Vec Ideal S4x64 .f32) (N : Vec Ideal S1x128 .f32)

/-- Token `l` of sequence `a` of a tile. -/
def row (a : Fin 4) (l : Fin 256) : Fin 1024 := ⟨256 * a + l, by omega⟩
/-- Column `x` of head `h` among the queries, the keys and the values. -/
def cq (h : Fin 4) (x : Fin 128) : Fin 1536 := ⟨h * 128 + x, by omega⟩
def ck (h : Fin 4) (x : Fin 128) : Fin 1536 := ⟨512 + (h * 128 + x), by omega⟩
def cv (h : Fin 4) (x : Fin 128) : Fin 1536 := ⟨1024 + (h * 128 + x), by omega⟩

set_option maxHeartbeats 4000000 in
theorem outs (c : Dev nD) (t : Fin cfg0.N) (hX : iblk m c 0 t = X) (hM : iblk m c 1 t = M) (hG : iblk m c 2 t = G) (hW : X0_3 m c t = W)
    (hL : iblk m c 4 t = L) (hN : iblk m c 5 t = N) (y : S1024x512.Idx) (a h : Fin 4) (l : Fin 256) (e : Fin 128)
    (h0 : (y 0 : ℕ) = 256 * a + l) (h1 : (y 1 : ℕ) = h * 128 + e) :
    (outsAt0 m c t).1 y = headNorm (lateMix (lam (fun x => L (ix2 0 x)) (fun x => L (ix2 1 x)) (fun x => L (ix2 2 x)) (fun x => L (ix2 3 x)))
        (fun x => PJ X M G W (row a l) (cq h x)) (fun j x => PJ X M G W (row a j) (ck h x)) (fun j x => PJ X M G W (row a j) (cv h x)))
      (fun x => N (ix2 0 x)) e := by
  unfold outsAt0
  frame_open
  simp (disch := decide) only [↓ View.readCov_skip, ↓ View.readCov_cons_toLoadRect, ↓ View.readCov_fill, ↓ readCov_part]
  frame_out
  rw [hX, hM, hG, hW, hL, hN]
  canon_tiles x g
  case piece0 =>
    refine (congrFun (e0 _ _ _ _ _) x).trans (op_of _ _ _ _ L x e (Fin.ext (by omega)) _ _ _ (fun z => ?_) (fun j z => ?_) (fun j z => ?_))
    · open_payloads; pointwise; exact spelled X M G W ⟨768 + x 0, by omega⟩ (row a l) ⟨384 + z, by omega⟩ (cq h z) (by simp only [row, cq, ck, cv]; omega) (by simp only [row, cq, ck, cv]; omega)
    · open_payloads; pointwise; exact spelled X M G W ⟨768 + j, by omega⟩ (row a j) ⟨896 + z, by omega⟩ (ck h z) (by simp only [row, cq, ck, cv]; omega) (by simp only [row, cq, ck, cv]; omega)
    · open_payloads; pointwise; exact spelled X M G W ⟨768 + j, by omega⟩ (row a j) ⟨1024 + (384 + z), by omega⟩ (cv h z) (by simp only [row, cq, ck, cv]; omega) (by simp only [row, cq, ck, cv]; omega)
  case piece1 =>
    refine (congrFun (e1 _ _ _ _ _) x).trans (op_of _ _ _ _ L x e (Fin.ext (by omega)) _ _ _ (fun z => ?_) (fun j z => ?_) (fun j z => ?_))
    · open_payloads; pointwise; exact spelled X M G W ⟨768 + x 0, by omega⟩ (row a l) ⟨256 + z, by omega⟩ (cq h z) (by simp only [row, cq, ck, cv]; omega) (by simp only [row, cq, ck, cv]; omega)
    · open_payloads; pointwise; exact spelled X M G W ⟨768 + j, by omega⟩ (row a j) ⟨768 + z, by omega⟩ (ck h z) (by simp only [row, cq, ck, cv]; omega) (by simp only [row, cq, ck, cv]; omega)
    · open_payloads; pointwise; exact spelled X M G W ⟨768 + j, by omega⟩ (row a j) ⟨1024 + (256 + z), by omega⟩ (cv h z) (by simp only [row, cq, ck, cv]; omega) (by simp only [row, cq, ck, cv]; omega)
  case piece2 =>
    refine (congrFun (e2 _ _ _ _ _) x).trans (op_of _ _ _ _ L x e (Fin.ext (by omega)) _ _ _ (fun z => ?_) (fun j z => ?_) (fun j z => ?_))
    · open_payloads; pointwise; exact spelled X M G W ⟨768 + x 0, by omega⟩ (row a l) ⟨128 + z, by omega⟩ (cq h z) (by simp only [row, cq, ck, cv]; omega) (by simp only [row, cq, ck, cv]; omega)
    · open_payloads; pointwise; exact spelled X M G W ⟨768 + j, by omega⟩ (row a j) ⟨640 + z, by omega⟩ (ck h z) (by simp only [row, cq, ck, cv]; omega) (by simp only [row, cq, ck, cv]; omega)
    · open_payloads; pointwise; exact spelled X M G W ⟨768 + j, by omega⟩ (row a j) ⟨1024 + (128 + z), by omega⟩ (cv h z) (by simp only [row, cq, ck, cv]; omega) (by simp only [row, cq, ck, cv]; omega)
  case piece3 =>
    refine (congrFun (e3 _ _ _ _ _) x).trans (op_of _ _ _ _ L x e (Fin.ext (by omega)) _ _ _ (fun z => ?_) (fun j z => ?_) (fun j z => ?_))
    · open_payloads; pointwise; exact spelled X M G W ⟨768 + x 0, by omega⟩ (row a l) ⟨z, by omega⟩ (cq h z) (by simp only [row, cq, ck, cv]; omega) (by simp only [row, cq, ck, cv]; omega)
    · open_payloads; pointwise; exact spelled X M G W ⟨768 + j, by omega⟩ (row a j) ⟨512 + z, by omega⟩ (ck h z) (by simp only [row, cq, ck, cv]; omega) (by simp only [row, cq, ck, cv]; omega)
    · open_payloads; pointwise; exact spelled X M G W ⟨768 + j, by omega⟩ (row a j) ⟨1024 + z, by omega⟩ (cv h z) (by simp only [row, cq, ck, cv]; omega) (by simp only [row, cq, ck, cv]; omega)
  case piece4 =>
    refine (congrFun (e4 _ _ _ _ _) x).trans (op_of _ _ _ _ L x e (Fin.ext (by omega)) _ _ _ (fun z => ?_) (fun j z => ?_) (fun j z => ?_))
    · open_payloads; pointwise; exact spelled X M G W ⟨512 + x 0, by omega⟩ (row a l) ⟨384 + z, by omega⟩ (cq h z) (by simp only [row, cq, ck, cv]; omega) (by simp only [row, cq, ck, cv]; omega)
    · open_payloads; pointwise; exact spelled X M G W ⟨512 + j, by omega⟩ (row a j) ⟨896 + z, by omega⟩ (ck h z) (by simp only [row, cq, ck, cv]; omega) (by simp only [row, cq, ck, cv]; omega)
    · open_payloads; pointwise; exact spelled X M G W ⟨512 + j, by omega⟩ (row a j) ⟨1024 + (384 + z), by omega⟩ (cv h z) (by simp only [row, cq, ck, cv]; omega) (by simp only [row, cq, ck, cv]; omega)
  case piece5 =>
    refine (congrFun (e5 _ _ _ _ _) x).trans (op_of _ _ _ _ L x e (Fin.ext (by omega)) _ _ _ (fun z => ?_) (fun j z => ?_) (fun j z => ?_))
    · open_payloads; pointwise; exact spelled X M G W ⟨512 + x 0, by omega⟩ (row a l) ⟨256 + z, by omega⟩ (cq h z) (by simp only [row, cq, ck, cv]; omega) (by simp only [row, cq, ck, cv]; omega)
    · open_payloads; pointwise; exact spelled X M G W ⟨512 + j, by omega⟩ (row a j) ⟨768 + z, by omega⟩ (ck h z) (by simp only [row, cq, ck, cv]; omega) (by simp only [row, cq, ck, cv]; omega)
    · open_payloads; pointwise; exact spelled X M G W ⟨512 + j, by omega⟩ (row a j) ⟨1024 + (256 + z), by omega⟩ (cv h z) (by simp only [row, cq, ck, cv]; omega) (by simp only [row, cq, ck, cv]; omega)
  case piece6 =>
    refine (congrFun (e6 _ _ _ _ _) x).trans (op_of _ _ _ _ L x e (Fin.ext (by omega)) _ _ _ (fun z => ?_) (fun j z => ?_) (fun j z => ?_))
    · open_payloads; pointwise; exact spelled X M G W ⟨512 + x 0, by omega⟩ (row a l) ⟨128 + z, by omega⟩ (cq h z) (by simp only [row, cq, ck, cv]; omega) (by simp only [row, cq, ck, cv]; omega)
    · open_payloads; pointwise; exact spelled X M G W ⟨512 + j, by omega⟩ (row a j) ⟨640 + z, by omega⟩ (ck h z) (by simp only [row, cq, ck, cv]; omega) (by simp only [row, cq, ck, cv]; omega)
    · open_payloads; pointwise; exact spelled X M G W ⟨512 + j, by omega⟩ (row a j) ⟨1024 + (128 + z), by omega⟩ (cv h z) (by simp only [row, cq, ck, cv]; omega) (by simp only [row, cq, ck, cv]; omega)
  case piece7 =>
    refine (congrFun (e7 _ _ _ _ _) x).trans (op_of _ _ _ _ L x e (Fin.ext (by omega)) _ _ _ (fun z => ?_) (fun j z => ?_) (fun j z => ?_))
    · open_payloads; pointwise; exact spelled X M G W ⟨512 + x 0, by omega⟩ (row a l) ⟨z, by omega⟩ (cq h z) (by simp only [row, cq, ck, cv]; omega) (by simp only [row, cq, ck, cv]; omega)
    · open_payloads; pointwise; exact spelled X M G W ⟨512 + j, by omega⟩ (row a j) ⟨512 + z, by omega⟩ (ck h z) (by simp only [row, cq, ck, cv]; omega) (by simp only [row, cq, ck, cv]; omega)
    · open_payloads; pointwise; exact spelled X M G W ⟨512 + j, by omega⟩ (row a j) ⟨1024 + z, by omega⟩ (cv h z) (by simp only [row, cq, ck, cv]; omega) (by simp only [row, cq, ck, cv]; omega)
  case piece8 =>
    refine (congrFun (e8 _ _ _ _ _) x).trans (op_of _ _ _ _ L x e (Fin.ext (by omega)) _ _ _ (fun z => ?_) (fun j z => ?_) (fun j z => ?_))
    · open_payloads; pointwise; exact spelled X M G W ⟨256 + x 0, by omega⟩ (row a l) ⟨384 + z, by omega⟩ (cq h z) (by simp only [row, cq, ck, cv]; omega) (by simp only [row, cq, ck, cv]; omega)
    · open_payloads; pointwise; exact spelled X M G W ⟨256 + j, by omega⟩ (row a j) ⟨896 + z, by omega⟩ (ck h z) (by simp only [row, cq, ck, cv]; omega) (by simp only [row, cq, ck, cv]; omega)
    · open_payloads; pointwise; exact spelled X M G W ⟨256 + j, by omega⟩ (row a j) ⟨1024 + (384 + z), by omega⟩ (cv h z) (by simp only [row, cq, ck, cv]; omega) (by simp only [row, cq, ck, cv]; omega)
  case piece9 =>
    refine (congrFun (e9 _ _ _ _ _) x).trans (op_of _ _ _ _ L x e (Fin.ext (by omega)) _ _ _ (fun z => ?_) (fun j z => ?_) (fun j z => ?_))
    · open_payloads; pointwise; exact spelled X M G W ⟨256 + x 0, by omega⟩ (row a l) ⟨256 + z, by omega⟩ (cq h z) (by simp only [row, cq, ck, cv]; omega) (by simp only [row, cq, ck, cv]; omega)
    · open_payloads; pointwise; exact spelled X M G W ⟨256 + j, by omega⟩ (row a j) ⟨768 + z, by omega⟩ (ck h z) (by simp only [row, cq, ck, cv]; omega) (by simp only [row, cq, ck, cv]; omega)
    · open_payloads; pointwise; exact spelled X M G W ⟨256 + j, by omega⟩ (row a j) ⟨1024 + (256 + z), by omega⟩ (cv h z) (by simp only [row, cq, ck, cv]; omega) (by simp only [row, cq, ck, cv]; omega)
  case piece10 =>
    refine (congrFun (e10 _ _ _ _ _) x).trans (op_of _ _ _ _ L x e (Fin.ext (by omega)) _ _ _ (fun z => ?_) (fun j z => ?_) (fun j z => ?_))
    · open_payloads; pointwise; exact spelled X M G W ⟨256 + x 0, by omega⟩ (row a l) ⟨128 + z, by omega⟩ (cq h z) (by simp only [row, cq, ck, cv]; omega) (by simp only [row, cq, ck, cv]; omega)
    · open_payloads; pointwise; exact spelled X M G W ⟨256 + j, by omega⟩ (row a j) ⟨640 + z, by omega⟩ (ck h z) (by simp only [row, cq, ck, cv]; omega) (by simp only [row, cq, ck, cv]; omega)
    · open_payloads; pointwise; exact spelled X M G W ⟨256 + j, by omega⟩ (row a j) ⟨1024 + (128 + z), by omega⟩ (cv h z) (by simp only [row, cq, ck, cv]; omega) (by simp only [row, cq, ck, cv]; omega)
  case piece11 =>
    refine (congrFun (e11 _ _ _ _ _) x).trans (op_of _ _ _ _ L x e (Fin.ext (by omega)) _ _ _ (fun z => ?_) (fun j z => ?_) (fun j z => ?_))
    · open_payloads; pointwise; exact spelled X M G W ⟨256 + x 0, by omega⟩ (row a l) ⟨z, by omega⟩ (cq h z) (by simp only [row, cq, ck, cv]; omega) (by simp only [row, cq, ck, cv]; omega)
    · open_payloads; pointwise; exact spelled X M G W ⟨256 + j, by omega⟩ (row a j) ⟨512 + z, by omega⟩ (ck h z) (by simp only [row, cq, ck, cv]; omega) (by simp only [row, cq, ck, cv]; omega)
    · open_payloads; pointwise; exact spelled X M G W ⟨256 + j, by omega⟩ (row a j) ⟨1024 + z, by omega⟩ (cv h z) (by simp only [row, cq, ck, cv]; omega) (by simp only [row, cq, ck, cv]; omega)
  case piece12 =>
    refine (congrFun (e12 _ _ _ _ _) x).trans (op_of _ _ _ _ L x e (Fin.ext (by omega)) _ _ _ (fun z => ?_) (fun j z => ?_) (fun j z => ?_))
    · open_payloads; pointwise; exact spelled X M G W ⟨x 0, by omega⟩ (row a l) ⟨384 + z, by omega⟩ (cq h z) (by simp only [row, cq, ck, cv]; omega) (by simp only [row, cq, ck, cv]; omega)
    · open_payloads; pointwise; exact spelled X M G W ⟨j, by omega⟩ (row a j) ⟨896 + z, by omega⟩ (ck h z) (by simp only [row, cq, ck, cv]; omega) (by simp only [row, cq, ck, cv]; omega)
    · open_payloads; pointwise; exact spelled X M G W ⟨j, by omega⟩ (row a j) ⟨1024 + (384 + z), by omega⟩ (cv h z) (by simp only [row, cq, ck, cv]; omega) (by simp only [row, cq, ck, cv]; omega)
  case piece13 =>
    refine (congrFun (e13 _ _ _ _ _) x).trans (op_of _ _ _ _ L x e (Fin.ext (by omega)) _ _ _ (fun z => ?_) (fun j z => ?_) (fun j z => ?_))
    · open_payloads; pointwise; exact spelled X M G W ⟨x 0, by omega⟩ (row a l) ⟨256 + z, by omega⟩ (cq h z) (by simp only [row, cq, ck, cv]; omega) (by simp only [row, cq, ck, cv]; omega)
    · open_payloads; pointwise; exact spelled X M G W ⟨j, by omega⟩ (row a j) ⟨768 + z, by omega⟩ (ck h z) (by simp only [row, cq, ck, cv]; omega) (by simp only [row, cq, ck, cv]; omega)
    · open_payloads; pointwise; exact spelled X M G W ⟨j, by omega⟩ (row a j) ⟨1024 + (256 + z), by omega⟩ (cv h z) (by simp only [row, cq, ck, cv]; omega) (by simp only [row, cq, ck, cv]; omega)
  case piece14 =>
    refine (congrFun (e14 _ _ _ _ _) x).trans (op_of _ _ _ _ L x e (Fin.ext (by omega)) _ _ _ (fun z => ?_) (fun j z => ?_) (fun j z => ?_))
    · open_payloads; pointwise; exact spelled X M G W ⟨x 0, by omega⟩ (row a l) ⟨128 + z, by omega⟩ (cq h z) (by simp only [row, cq, ck, cv]; omega) (by simp only [row, cq, ck, cv]; omega)
    · open_payloads; pointwise; exact spelled X M G W ⟨j, by omega⟩ (row a j) ⟨640 + z, by omega⟩ (ck h z) (by simp only [row, cq, ck, cv]; omega) (by simp only [row, cq, ck, cv]; omega)
    · open_payloads; pointwise; exact spelled X M G W ⟨j, by omega⟩ (row a j) ⟨1024 + (128 + z), by omega⟩ (cv h z) (by simp only [row, cq, ck, cv]; omega) (by simp only [row, cq, ck, cv]; omega)
  case piece15 =>
    refine (congrFun (e15 _ _ _ _ _) x).trans (op_of _ _ _ _ L x e (Fin.ext (by omega)) _ _ _ (fun z => ?_) (fun j z => ?_) (fun j z => ?_))
    · open_payloads; pointwise; exact spelled X M G W ⟨x 0, by omega⟩ (row a l) ⟨z, by omega⟩ (cq h z) (by simp only [row, cq, ck, cv]; omega) (by simp only [row, cq, ck, cv]; omega)
    · open_payloads; pointwise; exact spelled X M G W ⟨j, by omega⟩ (row a j) ⟨512 + z, by omega⟩ (ck h z) (by simp only [row, cq, ck, cv]; omega) (by simp only [row, cq, ck, cv]; omega)
    · open_payloads; pointwise; exact spelled X M G W ⟨j, by omega⟩ (row a j) ⟨1024 + z, by omega⟩ (cv h z) (by simp only [row, cq, ck, cv]; omega) (by simp only [row, cq, ck, cv]; omega)

end Cert.KernelIdeal.Tile
end
-- ==== Proof.Reference.lean ====
module
public import proofs.«01_k».proof.Proof.Gen.ReferenceIdeal.Read
public import proofs.«01_k».proof.Proof.Attention
public import Idealize.ShloMosaic.Lib.Pipeline.ValueKit

/-! The reference's three results read at an index: the projection of a normed row, and a head's norm of the
mixture of two softmaxes. -/

@[expose] public section
set_option maxRecDepth 16384
noncomputable section
namespace Cert.ReferenceIdeal.At
open Cert.ReferenceIdeal Cert.ReferenceIdeal.Gen Idealize.ShloMosaic Idealize.ShloMosaic.TcCoe Idealize.SL.Sem
open Cert.ReferenceIdeal.Read Cert.Attention
variable (X : Vec Ideal S32x256x1024 .f32) (M : Vec Ideal S1x6x1024 .f32) (G : Vec Ideal S1x1024 .f32) (W : Vec Ideal S1x1024x3104 .f32)
variable (A B C D : Vec Ideal S1x64 .f32) (N : Vec Ideal S1x128 .f32)

/-- Column `c` of the projection of token `l` of sequence `b`. -/
def P (b : Fin 32) (l : Fin 256) (c : Fin 3104) : EReal :=
  proj (fun k => X (ix3 b l k)) (fun k => G (ix2 0 k)) (fun k => M (ix3 0 1 k)) (fun k => M (ix3 0 0 k)) (fun k => W (ix3 0 k c))

/-- The columns of a head's queries, keys and values. -/
def colQ (h : Fin 4) (e : Fin 128) : Fin 3104 := ⟨h * 128 + e, by omega⟩
def colK (h : Fin 4) (e : Fin 128) : Fin 3104 := ⟨512 + (h * 128 + e), by omega⟩
def colV (h : Fin 4) (e : Fin 128) : Fin 3104 := ⟨1024 + (h * 128 + e), by omega⟩

theorem at27 (b : Fin 32) (l : Fin 256) (c : Fin 3104) : val_main_v27 (F := Ideal) X M G W (ix3 b l c) = P X M G W b l c := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rfl

theorem at30 (b : Fin 32) (h : Fin 4) (l : Fin 256) (e : Fin 128) :
    val_main_v30 (F := Ideal) X M G W (ix4 b h l e) = P X M G W b l (colQ h e) := by
  rw [← at27]
  pointwise [val_main_v30, val_main_v29, val_main_v28]
  rfl

theorem at33 (b : Fin 32) (h : Fin 4) (l : Fin 256) (e : Fin 128) :
    val_main_v33 (F := Ideal) X M G W (ix4 b h l e) = P X M G W b l (colK h e) := by
  rw [← at27]
  pointwise [val_main_v33, val_main_v32, val_main_v31]
  rfl

theorem at36 (b : Fin 32) (h : Fin 4) (l : Fin 256) (e : Fin 128) :
    val_main_v36 (F := Ideal) X M G W (ix4 b h l e) = P X M G W b l (colV h e) := by
  rw [← at27]
  pointwise [val_main_v36, val_main_v35, val_main_v34]
  rfl

theorem at105 (b : Fin 32) (h : Fin 4) (l : Fin 256) (e : Fin 128) :
    val_main_v105 (F := Ideal) X M G W (ix5 b 0 h l e) = P X M G W b l (colK h e) := by
  rw [← at33]
  pointwise [val_main_v105, val_main_v41, val_main_v40, val_main_v39]
  split
  · rfl
  · blk_ext

theorem at106 (b : Fin 32) (h : Fin 4) (l : Fin 256) (e : Fin 128) :
    val_main_v106 (F := Ideal) X M G W (ix5 b 0 h l e) = P X M G W b l (colV h e) := by
  rw [← at36]
  pointwise [val_main_v106]

theorem at56 (b : Fin 32) (h : Fin 4) (i j : Fin 256) : val_main_v56 (F := Ideal) X M G W (ix4 b h i j)
    = score lo (fun x => P X M G W b i (colQ h x)) (fun j x => P X M G W b j (colK h x)) j := by
  simp only [← at30, ← at33]
  pointwise [val_main_v56, val_main_v55, val_main_v54, val_main_v37, val_main_v39, val_main_cst_6]
  rfl

theorem at59 (b : Fin 32) (h : Fin 4) (i j : Fin 256) : val_main_v59 (F := Ideal) X M G W (ix4 b h i j)
    = score hi (fun x => P X M G W b i (colQ h x)) (fun j x => P X M G W b j (colK h x)) j := by
  simp only [← at30, ← at33]
  pointwise [val_main_v59, val_main_v58, val_main_v57, val_main_v38, val_main_v40, val_main_cst_7]
  rfl

/-- A maximum over the last of four axes. -/
theorem top_at {n0 n1 n2 n3 : ℕ} (y : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu) (b : Fin n0) (g : Fin n1) (i : Fin n2) :
    Host.reduce FloatOps.maximumf y c h hu (ix3 b g i)
      = Finset.univ.fold max (c (Shape.Idx.first hu)) fun k : Fin n3 => y (ix4 b g i k) := by
  simp only [pointwise]

theorem at60 (b : Fin 32) (h : Fin 4) (i : Fin 256) : val_main_v60 (F := Ideal) X M G W (ix3 b h i)
    = top (fun j => val_main_v56 (F := Ideal) X M G W (ix4 b h i j)) := by
  unfold val_main_v60
  generalize val_main_v56 (F := Ideal) X M G W = y
  exact top_at y _ _ _ b h i

theorem at64 (b : Fin 32) (h : Fin 4) (i j : Fin 256) : val_main_v64 (F := Ideal) X M G W (ix4 b h i j)
    = max (Ideal.ofBits .f32 4286578688#32) (top (fun j => val_main_v56 (F := Ideal) X M G W (ix4 b h i j))) := by
  rw [← at60]
  have e : val_main_v64 (F := Ideal) X M G W (ix4 b h i j) = val_main_v62 (F := Ideal) X M G W (ix3 b h i) := by
    unfold val_main_v64 val_main_v63
    generalize val_main_v62 (F := Ideal) X M G W = y
    pointwise
  have c : val_main_v61 (F := Ideal) (ix3 b h i) = Ideal.ofBits .f32 4286578688#32 := by
    rw [val_main_v61_apply]; rfl
  rw [e, val_main_v62_apply, c]
  generalize val_main_v60 (F := Ideal) X M G W (ix3 b h i) = y
  rfl

theorem at66 (b : Fin 32) (h : Fin 4) (i j : Fin 256) : val_main_v66 (F := Ideal) X M G W (ix4 b h i j)
    = Ideal.exp (val_main_v56 (F := Ideal) X M G W (ix4 b h i j) - val_main_v64 (F := Ideal) X M G W (ix4 b h i j)) := by
  unfold val_main_v66 val_main_v65
  generalize val_main_v56 (F := Ideal) X M G W = y
  generalize val_main_v64 (F := Ideal) X M G W = z
  pointwise

theorem at69 (b : Fin 32) (h : Fin 4) (i j : Fin 256) : val_main_v69 (F := Ideal) X M G W (ix4 b h i j)
    = ∑ k, val_main_v66 (F := Ideal) X M G W (ix4 b h i k) := by
  unfold val_main_v69 val_main_v68 val_main_v67
  generalize val_main_v66 (F := Ideal) X M G W = y
  pointwise [val_main_cst_10]

theorem at70 (b : Fin 32) (h : Fin 4) (i j : Fin 256) : val_main_v70 (F := Ideal) X M G W (ix4 b h i j)
    = soft (fun j => val_main_v56 (F := Ideal) X M G W (ix4 b h i j)) j := by
  unfold soft val_main_v70
  simp only [← at64 X M G W b h i j]
  have e : ∀ k, val_main_v64 (F := Ideal) X M G W (ix4 b h i j) = val_main_v64 (F := Ideal) X M G W (ix4 b h i k) := fun k => by
    rw [at64, at64]
  have s : ∑ k, Ideal.exp (val_main_v56 (F := Ideal) X M G W (ix4 b h i k) - val_main_v64 (F := Ideal) X M G W (ix4 b h i j))
      = val_main_v69 (F := Ideal) X M G W (ix4 b h i j) := by
    rw [at69]
    exact Finset.sum_congr rfl fun k _ => by rw [e k, at66]
  rw [s, ← at66]
  generalize val_main_v66 (F := Ideal) X M G W = y
  generalize val_main_v69 (F := Ideal) X M G W = z
  pointwise

theorem at71 (b : Fin 32) (h : Fin 4) (i : Fin 256) : val_main_v71 (F := Ideal) X M G W (ix3 b h i)
    = top (fun j => val_main_v59 (F := Ideal) X M G W (ix4 b h i j)) := by
  unfold val_main_v71
  generalize val_main_v59 (F := Ideal) X M G W = y
  exact top_at y _ _ _ b h i

theorem at75 (b : Fin 32) (h : Fin 4) (i j : Fin 256) : val_main_v75 (F := Ideal) X M G W (ix4 b h i j)
    = max (Ideal.ofBits .f32 4286578688#32) (top (fun j => val_main_v59 (F := Ideal) X M G W (ix4 b h i j))) := by
  rw [← at71]
  have e : val_main_v75 (F := Ideal) X M G W (ix4 b h i j) = val_main_v73 (F := Ideal) X M G W (ix3 b h i) := by
    unfold val_main_v75 val_main_v74
    generalize val_main_v73 (F := Ideal) X M G W = y
    pointwise
  have c : val_main_v72 (F := Ideal) (ix3 b h i) = Ideal.ofBits .f32 4286578688#32 := by
    rw [val_main_v72_apply]; rfl
  rw [e, val_main_v73_apply, c]
  generalize val_main_v71 (F := Ideal) X M G W (ix3 b h i) = y
  rfl

theorem at77 (b : Fin 32) (h : Fin 4) (i j : Fin 256) : val_main_v77 (F := Ideal) X M G W (ix4 b h i j)
    = Ideal.exp (val_main_v59 (F := Ideal) X M G W (ix4 b h i j) - val_main_v75 (F := Ideal) X M G W (ix4 b h i j)) := by
  unfold val_main_v77 val_main_v76
  generalize val_main_v59 (F := Ideal) X M G W = y
  generalize val_main_v75 (F := Ideal) X M G W = z
  pointwise

theorem at80 (b : Fin 32) (h : Fin 4) (i j : Fin 256) : val_main_v80 (F := Ideal) X M G W (ix4 b h i j)
    = ∑ k, val_main_v77 (F := Ideal) X M G W (ix4 b h i k) := by
  unfold val_main_v80 val_main_v79 val_main_v78
  generalize val_main_v77 (F := Ideal) X M G W = y
  pointwise [val_main_cst_13]

theorem at81 (b : Fin 32) (h : Fin 4) (i j : Fin 256) : val_main_v81 (F := Ideal) X M G W (ix4 b h i j)
    = soft (fun j => val_main_v59 (F := Ideal) X M G W (ix4 b h i j)) j := by
  unfold soft val_main_v81
  simp only [← at75 X M G W b h i j]
  have e : ∀ k, val_main_v75 (F := Ideal) X M G W (ix4 b h i j) = val_main_v75 (F := Ideal) X M G W (ix4 b h i k) := fun k => by
    rw [at75, at75]
  have s : ∑ k, Ideal.exp (val_main_v59 (F := Ideal) X M G W (ix4 b h i k) - val_main_v75 (F := Ideal) X M G W (ix4 b h i j))
      = val_main_v80 (F := Ideal) X M G W (ix4 b h i j) := by
    rw [at80]
    exact Finset.sum_congr rfl fun k _ => by rw [e k, at77]
  rw [s, ← at77]
  generalize val_main_v77 (F := Ideal) X M G W = y
  generalize val_main_v80 (F := Ideal) X M G W = z
  pointwise

/-- The weight of the second table, from the four vectors. -/
def L : EReal := lam (fun i => A (ix2 0 i)) (fun i => B (ix2 0 i)) (fun i => C (ix2 0 i)) (fun i => D (ix2 0 i))

/-- The reference's mixture for query `i` of head `h` of sequence `b`. -/
def mix (b : Fin 32) (h : Fin 4) (i : Fin 256) : Fin 128 → EReal :=
  earlyMix (L A B C D) (fun x => P X M G W b i (colQ h x)) (fun j x => P X M G W b j (colK h x)) (fun j x => P X M G W b j (colV h x))

theorem at85 (b : Fin 32) (h : Fin 4) (i : Fin 256) (e : Fin 128) :
    val_main_v85 (F := Ideal) X M G W A B C D (ix4 b h i e) = mix X M G W A B C D b h i e := by
  unfold mix earlyMix
  have e1 : score lo (fun x => P X M G W b i (colQ h x)) (fun j x => P X M G W b j (colK h x))
      = fun j => val_main_v56 (F := Ideal) X M G W (ix4 b h i j) := funext fun j => (at56 X M G W b h i j).symm
  have e2 : score hi (fun x => P X M G W b i (colQ h x)) (fun j x => P X M G W b j (colK h x))
      = fun j => val_main_v59 (F := Ideal) X M G W (ix4 b h i j) := funext fun j => (at59 X M G W b h i j).symm
  rw [e1, e2]
  simp only [← at70, ← at81, ← at36]
  pointwise [val_main_v85, val_main_v84, val_main_v83, val_main_v82, val_main_v53, val_main_v52, val_main_v51, val_main_v50,
    val_main_v49, val_main_v48, val_main_v47, val_main_v46, val_main_v45, val_main_v44, val_main_v43, val_main_v42, val_main_cst_3,
    val_main_cst_4, val_main_cst_5]
  rfl

theorem at104 (r : Fin 8192) (c : Fin 512) :
    val_main_v104 (F := Ideal) X M G W A B C D N (ix2 r c)
      = headNorm (mix X M G W A B C D ⟨r / 256, by omega⟩ ⟨c / 128, by omega⟩ ⟨r % 256, by omega⟩) (fun e => N (ix2 0 e))
          ⟨c % 128, by omega⟩ := by
  unfold headNorm
  simp only [← at85]
  pointwise [val_main_v104, val_main_v103, val_main_v102, val_main_v101, val_main_v100, val_main_v99, val_main_v98, val_main_v97,
    val_main_v96, val_main_v95, val_main_v94, val_main_v93, val_main_v92, val_main_v91, val_main_v90, val_main_v89, val_main_v88,
    val_main_v87, val_main_v86, val_main_cst_14, val_main_cst_15, val_main_cst_16, val_main_cst_17]

end Cert.ReferenceIdeal.At
end
-- ==== Proof.Blocks.lean ====
module
public import proofs.«01_k».proof.Proof.Outs
public import proofs.«01_k».proof.Proof.Reference
public import Idealize.ShloMosaic.Lib.Claim

/-! The kernel's input blocks as entries of the arguments. -/

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)
open Cert.Attention
variable (m : (ℓ : Loc nD τ sig) → Buf (Elt Ideal) ℓ)

/-- Where each window's block lies. -/
theorem idx : ∀ t : Fin cfg0.N, win0_0.index t = ![t.val, 0] ∧ win0_1.index t = ![0, 0, 0] ∧ win0_2.index t = ![0, 0] ∧ win0_3.index t = ![0, 0]
    ∧ win0_4.index t = ![0, 0] ∧ win0_5.index t = ![0, 0] ∧ win0_6.index t = ![t.val, 0] ∧ win0_7.index t = ![t.val, 0, 0, 0, 0]
    ∧ win0_8.index t = ![t.val, 0, 0, 0, 0] :=
  (by decide +kernel : ∀ t : Fin grid0.N, _)

/-- A token of the tile is a token of a sequence. -/
theorem x_at (c : Dev nD) (t : Fin cfg0.N) (X : Vec Ideal S1024x1024 .f32) (hX : iblk m c 0 t = X) (r k : Fin 1024) (b : Fin 32) (l : Fin 256)
    (h : 1024 * (t : ℕ) + r = 256 * b + l) :
    X (ix2 r k) = (m ((c : Thread nD τ).loc main_arg0) : Vec Ideal S32x256x1024 .f32) (ix3 b l k) := by
  subst hX
  blk_simp [iblk]
  entry_read
  pointwise
  blk_ext [idx t]

theorem mods_at (c : Dev nD) (t : Fin cfg0.N) (M : Vec Ideal S1x6x1024 .f32) (hM : iblk m c 1 t = M) :
    M = m ((c : Thread nD τ).loc main_arg1) := by
  subst hM
  blk_ext! [iblk, V, idx t]

theorem g_at (c : Dev nD) (t : Fin cfg0.N) (G : Vec Ideal S1x1024 .f32) (hG : iblk m c 2 t = G) (k : Fin 1024) :
    G (ix2 0 k) = (m ((c : Thread nD τ).loc main_arg2) : Vec Ideal S1x1024 .f32) (ix2 0 k) := by
  subst hG
  blk_simp [iblk]
  entry_read
  pointwise
  blk_ext [idx t]

theorem w_at (c : Dev nD) (t : Fin cfg0.N) (W : Vec Ideal S1024x1536 .bf16) (hW : X0_3 m c t = W) (k : Fin 1024) (j : Fin 1536) (j' : Fin 3104)
    (hj : (j : ℕ) = j') :
    W (ix2 k j) = (m ((c : Thread nD τ).loc main_arg3) : Vec Ideal S1x1024x3104 .f32) (ix3 0 k j') := by
  subst hW
  unfold X0_3 Pipeline.Window.fill
  rw [dif_pos (moved0_3 t _)]
  blk_simp [iblk]
  entry_read
  pointwise
  blk_ext [idx t]

theorem lam_whole (c : Dev nD) (t : Fin cfg0.N) : iblk m c 4 t = V m c main_v12 := by
  blk_ext! [iblk, idx t]

/-- A vector flattened and laid out as a row again. -/
def again (A : Vec Ideal S1x64 .f32) : Vec Ideal S1x64 .f32 :=
  broadcastInDim S1x64 ![1] bcast_S64_S1x64_1 fun i => shapeCast S64 A shapeCasts_S1x64_S64 i

/-- Four such rows, one above the other. -/
def stack (A B C D : Vec Ideal S1x64 .f32) : Vec Ideal S4x64 .f32 :=
  concatenate S4x64 0 [⟨S1x64, again A⟩, ⟨S1x64, again B⟩, ⟨S1x64, again C⟩, ⟨S1x64, again D⟩]
    concatenates_S1x64_S1x64_S1x64_S1x64_S4x64_d0

theorem lam_op (c : Dev nD) : V m c main_v12
    = stack (m ((c : Thread nD τ).loc main_arg4)) (m ((c : Thread nD τ).loc main_arg5)) (m ((c : Thread nD τ).loc main_arg6))
        (m ((c : Thread nD τ).loc main_arg7)) := by
  unfold V
  rw [hostOps0]
  simp only [StableHlo.after_cons, StableHlo.after_nil]
  after_results_simp
  dsimp only [Matrix.cons_val]
  after_results_loop
  rfl

theorem again_at (A : Vec Ideal S1x64 .f32) (k : Fin 64) : again A (ix2 0 k) = A (ix2 0 k) := by pointwise [again]

theorem stack_at (A B C D : Vec Ideal S1x64 .f32) (k : Fin 64) :
    stack A B C D (ix2 0 k) = A (ix2 0 k) ∧ stack A B C D (ix2 1 k) = B (ix2 0 k)
    ∧ stack A B C D (ix2 2 k) = C (ix2 0 k) ∧ stack A B C D (ix2 3 k) = D (ix2 0 k) := by
  rw [← again_at A, ← again_at B, ← again_at C, ← again_at D]
  refine ⟨?_, ?_, ?_, ?_⟩ <;> pointwise [stack]

theorem lam_at (c : Dev nD) (t : Fin cfg0.N) (L : Vec Ideal S4x64 .f32) (hL : iblk m c 4 t = L) :
    L = stack (m ((c : Thread nD τ).loc main_arg4)) (m ((c : Thread nD τ).loc main_arg5)) (m ((c : Thread nD τ).loc main_arg6))
        (m ((c : Thread nD τ).loc main_arg7)) :=
  (hL.symm.trans (lam_whole m c t)).trans (lam_op m c)

theorem dn_at (c : Dev nD) (t : Fin cfg0.N) (N : Vec Ideal S1x128 .f32) (hN : iblk m c 5 t = N) (k : Fin 128) :
    N (ix2 0 k) = (m ((c : Thread nD τ).loc main_arg8) : Vec Ideal S1x128 .f32) (ix2 0 k) := by
  subst hN
  blk_simp [iblk]
  entry_read
  pointwise
  blk_ext [idx t]

end Cert.KernelIdeal.Tile
end
-- ==== Proof.Final.lean ====
module
public import proofs.«01_k».proof.Proof.Blocks

/-! The kernel's three result arrays are the reference's. -/

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)
open Cert.Attention Cert.ReferenceIdeal.At Cert.ReferenceIdeal.Read
variable (m : (ℓ : Loc nD τ sig) → Buf (Elt Ideal) ℓ)

/-- The projection over a tile's blocks is the projection over the arguments. -/
theorem PJ_eq (c : Dev nD) (t : Fin cfg0.N) (r : Fin 1024) (j : Fin 1536) (b : Fin 32) (l : Fin 256) (j' : Fin 3104)
    (h : 1024 * (t : ℕ) + r = 256 * b + l) (hj : (j : ℕ) = j') :
    PJ (iblk m c 0 t) (iblk m c 1 t) (iblk m c 2 t) (X0_3 m c t) r j
    = P (m ((c : Thread nD τ).loc main_arg0)) (m ((c : Thread nD τ).loc main_arg1)) (m ((c : Thread nD τ).loc main_arg2))
        (m ((c : Thread nD τ).loc main_arg3)) b l j' := by
  unfold PJ P
  have e0 := fun k => x_at m c t _ rfl r k b l h
  have e1 := mods_at m c t _ rfl
  have e2 := g_at m c t _ rfl
  have e3 := fun k => w_at m c t _ rfl k j j' hj
  rw [funext e0, funext e2, funext e3, e1]

variable (X : Vec Ideal S32x256x1024 .f32) (M : Vec Ideal S1x6x1024 .f32) (G : Vec Ideal S1x1024 .f32) (W : Vec Ideal S1x1024x3104 .f32)
  (A B C D : Vec Ideal S1x64 .f32) (N : Vec Ideal S1x128 .f32)

theorem v105_at (i : S32x1x4x256x128.Idx) (b : Fin 32) (h : Fin 4) (l : Fin 256) (e : Fin 128) (h0 : (i 0 : ℕ) = b) (h2 : (i 2 : ℕ) = h)
    (h3 : (i 3 : ℕ) = l) (h4 : (i 4 : ℕ) = e) : val_main_v105 (F := Ideal) X M G W i = P X M G W b l (colK h e) := by
  have : i = ix5 b 0 h l e := by blk_ext
  rw [this]
  exact at105 X M G W b h l e

theorem v106_at (i : S32x1x4x256x128.Idx) (b : Fin 32) (h : Fin 4) (l : Fin 256) (e : Fin 128) (h0 : (i 0 : ℕ) = b) (h2 : (i 2 : ℕ) = h)
    (h3 : (i 3 : ℕ) = l) (h4 : (i 4 : ℕ) = e) : val_main_v106 (F := Ideal) X M G W i = P X M G W b l (colV h e) := by
  have : i = ix5 b 0 h l e := by blk_ext
  rw [this]
  exact at106 X M G W b h l e

theorem v104_at (i : S8192x512.Idx) (b : Fin 32) (h : Fin 4) (l : Fin 256) (e : Fin 128) (h0 : (i 0 : ℕ) = 256 * b + l)
    (h1 : (i 1 : ℕ) = h * 128 + e) : val_main_v104 (F := Ideal) X M G W A B C D N i
      = headNorm (mix X M G W A B C D b h l) (fun e => N (ix2 0 e)) e := by
  have : i = ix2 ⟨256 * b + l, by omega⟩ ⟨h * 128 + e, by omega⟩ := by blk_ext
  rw [this]
  refine (at104 X M G W A B C D N _ _).trans ?_
  have e1 : (⟨(256 * b + l) / 256, by omega⟩ : Fin 32) = b := Fin.ext (by dsimp only; omega)
  have e2 : (⟨(256 * b + l) % 256, by omega⟩ : Fin 256) = l := Fin.ext (by dsimp only; omega)
  have e3 : (⟨(h * 128 + e) / 128, by omega⟩ : Fin 4) = h := Fin.ext (by dsimp only; omega)
  have e4 : (⟨(h * 128 + e) % 128, by omega⟩ : Fin 128) = e := Fin.ext (by dsimp only; omega)
  rw [e1, e2, e3, e4]

/-! The new keys. -/

theorem key_at (c : Dev nD) (t : Fin cfg0.N) (a : Fin 4) (z : Fin 1) (h : Fin 4) (l : Fin 256) (e : Fin 128) (b : Fin 32)
    (hb : (b : ℕ) = 4 * t + a) : (outsAt0 m c t).2.1 (ix5 a z h l e)
    = P (m ((c : Thread nD τ).loc main_arg0)) (m ((c : Thread nD τ).loc main_arg1)) (m ((c : Thread nD τ).loc main_arg2))
        (m ((c : Thread nD τ).loc main_arg3)) b l (colK h e) := by
  refine (keys m _ _ _ _ c t rfl rfl rfl rfl (ix5 a z h l e) (row a l) (ck h e) ?_ ?_).trans
    (PJ_eq m c t (row a l) (ck h e) b l (colK h e) (by dsimp only [row]; omega) rfl)
  · simp only [row, ix5_0, ix5_3]
  · simp only [ck, ix5_2, ix5_4]

theorem final7 (c : Dev nD) : (dats m 0 c).arrAt 7 cfg0.N
    = val_main_v105 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  obtain ⟨y0, y1, y2, y3, y4, rfl⟩ : ∃ (y0 : Fin 4) (y1 : Fin 1) (y2 : Fin 4) (y3 : Fin 256) (y4 : Fin 128), y = ix5 y0 y1 y2 y3 y4 :=
    ⟨y 0, y 1, y 2, y 3, y 4, by blk_ext⟩
  have ht : (t : ℕ) < 8 := t.isLt
  have hb : ∃ b : Fin 32, (b : ℕ) = 4 * t + y0 := ⟨⟨4 * t + y0, by omega⟩, rfl⟩
  obtain ⟨b, hb⟩ := hb
  refine (key_at m c t y0 y1 y2 y3 y4 b hb).trans (Eq.symm ?_)
  refine v105_at _ _ _ _ _ b y2 y3 y4 ?_ ?_ ?_ ?_
  · blk_simp [idx t]; rw [hb, Nat.mul_comm]
  · blk_simp [idx t]
  · blk_simp [idx t]
  · blk_simp [idx t]

/-! The new values. -/

theorem value_at (c : Dev nD) (t : Fin cfg0.N) (a : Fin 4) (z : Fin 1) (h : Fin 4) (l : Fin 256) (e : Fin 128) (b : Fin 32)
    (hb : (b : ℕ) = 4 * t + a) : (outsAt0 m c t).2.2 (ix5 a z h l e)
    = P (m ((c : Thread nD τ).loc main_arg0)) (m ((c : Thread nD τ).loc main_arg1)) (m ((c : Thread nD τ).loc main_arg2))
        (m ((c : Thread nD τ).loc main_arg3)) b l (colV h e) := by
  refine (values m _ _ _ _ c t rfl rfl rfl rfl (ix5 a z h l e) (row a l) (cv h e) ?_ ?_).trans
    (PJ_eq m c t (row a l) (cv h e) b l (colV h e) (by dsimp only [row]; omega) rfl)
  · simp only [row, ix5_0, ix5_3]
  · simp only [cv, ix5_2, ix5_4]

theorem final8 (c : Dev nD) : (dats m 0 c).arrAt 8 cfg0.N
    = val_main_v106 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  obtain ⟨y0, y1, y2, y3, y4, rfl⟩ : ∃ (y0 : Fin 4) (y1 : Fin 1) (y2 : Fin 4) (y3 : Fin 256) (y4 : Fin 128), y = ix5 y0 y1 y2 y3 y4 :=
    ⟨y 0, y 1, y 2, y 3, y 4, by blk_ext⟩
  have ht : (t : ℕ) < 8 := t.isLt
  have hb : ∃ b : Fin 32, (b : ℕ) = 4 * t + y0 := ⟨⟨4 * t + y0, by omega⟩, rfl⟩
  obtain ⟨b, hb⟩ := hb
  refine (value_at m c t y0 y1 y2 y3 y4 b hb).trans (Eq.symm ?_)
  refine v106_at _ _ _ _ _ b y2 y3 y4 ?_ ?_ ?_ ?_
  · blk_simp [idx t]; rw [hb, Nat.mul_comm]
  · blk_simp [idx t]
  · blk_simp [idx t]
  · blk_simp [idx t]

/-- Every entry of an array is finite. -/
def AllReal {s : Shape} (x : s.Idx → EReal) : Prop := ∀ i, Real' (x i)

/-- The attention output, from finite arguments. -/
theorem final6 (c : Dev nD)
    (r0 : AllReal (s := S32x256x1024) (m ((c : Thread nD τ).loc main_arg0))) (r1 : AllReal (s := S1x6x1024) (m ((c : Thread nD τ).loc main_arg1)))
    (r2 : AllReal (s := S1x1024) (m ((c : Thread nD τ).loc main_arg2))) (r3 : AllReal (s := S1x1024x3104) (m ((c : Thread nD τ).loc main_arg3)))
    (r4 : AllReal (s := S1x64) (m ((c : Thread nD τ).loc main_arg4))) (r5 : AllReal (s := S1x64) (m ((c : Thread nD τ).loc main_arg5)))
    (r6 : AllReal (s := S1x64) (m ((c : Thread nD τ).loc main_arg6))) (r7 : AllReal (s := S1x64) (m ((c : Thread nD τ).loc main_arg7))) :
    (dats m 0 c).arrAt 6 cfg0.N
    = val_main_v104 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 6 _ (by decide +kernel) fun t _ y => ?_
  blk_simp
  rw [after0_6]
  obtain ⟨y0, y1, rfl⟩ : ∃ (y0 : Fin 1024) (y1 : Fin 512), y = ix2 y0 y1 := ⟨y 0, y 1, by blk_ext⟩
  have ht : (t : ℕ) < 8 := t.isLt
  obtain ⟨a, l, ha⟩ : ∃ (a : Fin 4) (l : Fin 256), (y0 : ℕ) = 256 * a + l := ⟨⟨y0 / 256, by omega⟩, ⟨y0 % 256, by omega⟩, by dsimp only; omega⟩
  obtain ⟨h, e, he⟩ : ∃ (h : Fin 4) (e : Fin 128), (y1 : ℕ) = h * 128 + e := ⟨⟨y1 / 128, by omega⟩, ⟨y1 % 128, by omega⟩, by dsimp only; omega⟩
  refine (outs m _ _ _ _ _ _ c t rfl rfl rfl rfl rfl rfl _ a h l e ha he).trans (Eq.trans ?_
    (v104_at _ _ _ _ _ _ _ _ _ _ ⟨4 * t + a, by omega⟩ h l e ?_ ?_).symm)
  · have eq := fun x => PJ_eq m c t (row a l) (cq h x) ⟨4 * t + a, by omega⟩ l (colQ h x) (by dsimp only [row]; omega) rfl
    have ek := fun j x => PJ_eq m c t (row a j) (ck h x) ⟨4 * t + a, by omega⟩ j (colK h x) (by dsimp only [row]; omega) rfl
    have ev := fun j x => PJ_eq m c t (row a j) (cv h x) ⟨4 * t + a, by omega⟩ j (colV h x) (by dsimp only [row]; omega) rfl
    rw [funext eq, funext fun j => funext (ek j), funext fun j => funext (ev j), funext (dn_at m c t _ rfl), lam_at m c t _ rfl]
    simp only [(stack_at _ _ _ _ _).1, (stack_at _ _ _ _ _).2.1, (stack_at _ _ _ _ _).2.2.1, (stack_at _ _ _ _ _).2.2.2]
    have rP : ∀ b l j, Real' (P (m ((c : Thread nD τ).loc main_arg0)) (m ((c : Thread nD τ).loc main_arg1)) (m ((c : Thread nD τ).loc main_arg2))
        (m ((c : Thread nD τ).loc main_arg3)) b l j) := fun b l j =>
      proj_real (fun _ => r0 _) (fun _ => r2 _) (fun _ => r1 _) (fun _ => r1 _) fun _ => r3 _
    rw [mix_eq (lam_real (fun _ => r4 _) (fun _ => r5 _) (fun _ => r6 _) fun _ => r7 _) (fun _ => rP _ _ _) (fun _ _ => rP _ _ _)
      fun _ _ => rP _ _ _]
    rfl
  all_goals blk_simp [idx t]
  all_goals (try dsimp only)
  all_goals omega

end Cert.KernelIdeal.Tile
end
-- ==== Proof.Finite.lean ====
module
public import proofs.«01_k».proof.Defs
public import proofs.«01_k».proof.Proof.Final

/-! What the precondition says: every entry of the arguments is finite. -/

@[expose] public section
set_option maxRecDepth 16384
noncomputable section
namespace Cert.Finite
open Idealize.ShloMosaic Idealize.ShloMosaic.TcCoe Idealize.SL.Sem
open Cert.Attention
open Cert.KernelIdeal.Tile (AllReal)

instance facts : Cert.Pre_inputs_are_finite.Facts := by
  constructor <;> decide

theorem inf_const : Ideal.ofBits .f32 2139095040#32 = (⊤ : EReal) := by
  show Ideal.ieee 8 23 (2139095040#32) = ⊤
  unfold Ideal.ieee
  have a : ((2139095040#32).extractLsb' 31 1 == 1#1) = false := by decide
  have b : ((2139095040#32).extractLsb' 23 8).toNat = 255 := by decide
  have c : ((2139095040#32).extractLsb' 0 23).toNat = 0 := by decide
  simp [a, b, c]

/-- A value whose absolute value lies below +∞ is a real number. -/
theorem of_abs {x : EReal} (h : max x (-x) < ⊤) : Real' x := by
  induction x with
  | bot => simp at h
  | top => simp at h
  | coe r => exact ⟨r, rfl⟩

theorem of_test {s : Shape} (x : FVec Ideal s .f32) (b) (h : cmpf .olt (Host.absf x) (broadcastInDim s ![] b (constant ⟨0, ![]⟩ .f32 0x7F800000#32)) = fun _ => 1#1) :
    AllReal (s := s) x := by
  intro i
  have hi := congrFun h i
  refine of_abs ?_
  rw [← inf_const]
  by_contra hn
  have : BitVec.ofBool (decide (max (x i) (-(x i)) < Ideal.ofBits .f32 2139095040#32)) = 1#1 := hi
  rw [decide_eq_false hn] at this
  exact absurd this (by decide)

theorem of_pre (m : (ℓ : Loc Cert.KernelIdeal.nD Cert.KernelIdeal.τ Cert.KernelIdeal.sig) → Buf (Elt Ideal) ℓ)
    (h : Pre_KernelIdeal_inputs_are_finite m) (c : Dev Cert.KernelIdeal.nD) :
    AllReal (s := Cert.KernelIdeal.S32x256x1024) (m ((c.tc : Thread Cert.KernelIdeal.nD Cert.KernelIdeal.τ).loc Cert.KernelIdeal.main_arg0))
    ∧ AllReal (s := Cert.KernelIdeal.S1x6x1024) (m ((c.tc : Thread Cert.KernelIdeal.nD Cert.KernelIdeal.τ).loc Cert.KernelIdeal.main_arg1))
    ∧ AllReal (s := Cert.KernelIdeal.S1x1024) (m ((c.tc : Thread Cert.KernelIdeal.nD Cert.KernelIdeal.τ).loc Cert.KernelIdeal.main_arg2))
    ∧ AllReal (s := Cert.KernelIdeal.S1x1024x3104) (m ((c.tc : Thread Cert.KernelIdeal.nD Cert.KernelIdeal.τ).loc Cert.KernelIdeal.main_arg3))
    ∧ AllReal (s := Cert.KernelIdeal.S1x64) (m ((c.tc : Thread Cert.KernelIdeal.nD Cert.KernelIdeal.τ).loc Cert.KernelIdeal.main_arg4))
    ∧ AllReal (s := Cert.KernelIdeal.S1x64) (m ((c.tc : Thread Cert.KernelIdeal.nD Cert.KernelIdeal.τ).loc Cert.KernelIdeal.main_arg5))
    ∧ AllReal (s := Cert.KernelIdeal.S1x64) (m ((c.tc : Thread Cert.KernelIdeal.nD Cert.KernelIdeal.τ).loc Cert.KernelIdeal.main_arg6))
    ∧ AllReal (s := Cert.KernelIdeal.S1x64) (m ((c.tc : Thread Cert.KernelIdeal.nD Cert.KernelIdeal.τ).loc Cert.KernelIdeal.main_arg7)) := by
  obtain ⟨h0, h1, h2, h3, h4, h5, h6, h7⟩ := h c
  exact ⟨of_test _ _ h0, of_test _ _ h1, of_test _ _ h2, of_test _ _ h3, of_test _ _ h4, of_test _ _ h5, of_test _ _ h6, of_test _ _ h7⟩

end Cert.Finite
end
-- ==== Proof.OutI.RunB.lean ====
module

public import proofs.«01_k».proof.Proof.Gen.OutKernelIdeal.Frame
public import proofs.«01_k».proof.Proof.Gen.OutKernelIdeal.Skeleton
public import Idealize.ShloMosaic.Lib.Tactic
public import Idealize.ShloMosaic.Lib.Pipeline.Kit

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- The body at a later prompt point: what it leaves in the prompt's block, as a list of stores, given the weight buffers' contents. -/
noncomputable def runB (c : Dev nD) (i : grid0.Coords) (hc1 : ¬ k0_cond1 i = 1#1) (hc2 : k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (y0 : Vec F S1024x1024 .bf16) (y1 : Vec F S1024x4096 .bf16) (y2 : Vec F S4096x1024 .bf16) :
    { L : List (View.Piece (Elt F) S512x1024 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ d, owns (c : Thread nD τ) arg14 fullShare d) ∗ owns (c : Thread nD τ) arg16 fullShare y0 ∗ owns (c : Thread nD τ) arg17 fullShare y1 ∗ owns (c : Thread nD τ) arg18 fullShare y2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ f, arg14.view.loc (c : Thread nD τ) ↦[arg14.view.set]{fullShare} arg14.view.writes (Elt F) f L) ∗ owns (c : Thread nD τ) arg16 fullShare y0 ∗ owns (c : Thread nD τ) arg17 fullShare y1 ∗ owns (c : Thread nD τ) arg18 fullShare y2) -∗ K ⟨⟩))
          ⊢ wp frame (wpE (defs₀ (F := F)) Variants.none c none) Set.univ (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 cc0_scratch4) K } := by
  refine ⟨?_, fun K => ?run⟩
  case run =>
    simp only [cc0_out_mlp_eq_skeleton]; unfold cc0_out_mlp_skel
    simp only [dif_pos hc2, dif_neg hc1, dif_neg hc3, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f, -, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg16.eq_unread hfs0; obtain rfl := harg17.eq_unread hfs1; obtain rfl := harg18.eq_unread hfs2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg16.read_unread _
      iexact HS0
    isplitl [HS1]
    · iexists _; isplitr; · ipureintro; exact harg17.read_unread _
      iexact HS1
    iexists _; isplitr; · ipureintro; exact harg18.read_unread _
    iexact HS2

end Cert.OutKernelIdeal.Body

end
-- ==== Proof.OutI.RunC.lean ====
module

public import proofs.«01_k».proof.Proof.Gen.OutKernelIdeal.Frame
public import proofs.«01_k».proof.Proof.Gen.OutKernelIdeal.Skeleton
public import Idealize.ShloMosaic.Lib.Tactic
public import Idealize.ShloMosaic.Lib.Pipeline.Kit

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- The body at a sample point: what it leaves in the sample's block, as a list of stores, given the weight buffers' contents. -/
noncomputable def runC (c : Dev nD) (i : grid0.Coords) (hc1 : ¬ k0_cond1 i = 1#1) (hc2 : ¬ k0_cond2 i = 1#1) (hc3 : k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (y0 : Vec F S1024x1024 .bf16) (y1 : Vec F S1024x4096 .bf16) (y2 : Vec F S4096x1024 .bf16) :
    { L : List (View.Piece (Elt F) S512x1024 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ d, owns (c : Thread nD τ) arg15 fullShare d) ∗ owns (c : Thread nD τ) arg16 fullShare y0 ∗ owns (c : Thread nD τ) arg17 fullShare y1 ∗ owns (c : Thread nD τ) arg18 fullShare y2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ f, arg15.view.loc (c : Thread nD τ) ↦[arg15.view.set]{fullShare} arg15.view.writes (Elt F) f L) ∗ owns (c : Thread nD τ) arg16 fullShare y0 ∗ owns (c : Thread nD τ) arg17 fullShare y1 ∗ owns (c : Thread nD τ) arg18 fullShare y2) -∗ K ⟨⟩))
          ⊢ wp frame (wpE (defs₀ (F := F)) Variants.none c none) Set.univ (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 cc0_scratch4) K } := by
  refine ⟨?_, fun K => ?run⟩
  case run =>
    simp only [cc0_out_mlp_eq_skeleton]; unfold cc0_out_mlp_skel
    simp only [dif_pos hc3, dif_neg hc1, dif_neg hc2, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f, -, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg16.eq_unread hfs0; obtain rfl := harg17.eq_unread hfs1; obtain rfl := harg18.eq_unread hfs2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg16.read_unread _
      iexact HS0
    isplitl [HS1]
    · iexists _; isplitr; · ipureintro; exact harg17.read_unread _
      iexact HS1
    iexists _; isplitr; · ipureintro; exact harg18.read_unread _
    iexact HS2

end Cert.OutKernelIdeal.Body

end
-- ==== Proof.OutI.Half.lean ====
module

public import proofs.«01_k».proof.Proof.OutI.RunB
public import proofs.«01_k».proof.Proof.OutI.RunC

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI Idealize.SL.Sem

variable {F : FTy → Type} [FloatOps F]

/-- 256 rows times a matrix of 1024 columns, from 1024 columns. -/
def mm (x : FVec F S256x1024 .bf16) (w : Vec F S1024x1024 .bf16) : FVec F S256x1024 .f32 :=
  matmul dot_S256x1024_S1024x1024_S256x1024_1_0_0_1_n_n none x w (constant S256x1024 .f32 0x00000000#32)

/-- The mixers' outputs through the output projection: one product per mixer, added. -/
def mixV (a : Vec F S256x512 .bf16) (wa : Vec F S512x1024 .bf16) (b : Vec F S256x512 .bf16) (wb : Vec F S512x1024 .bf16) : FVec F S256x1024 .f32 :=
  addf (matmul dot_S256x512_S512x1024_S256x1024_1_0_0_1_n_n none a wa (constant S256x1024 .f32 0x00000000#32))
    (matmul dot_S256x512_S512x1024_S256x1024_1_0_0_1_n_n none b wb (constant S256x1024 .f32 0x00000000#32))

/-- A row vector on every row. -/
def rowV (g : FVec F S1x1024 .f32) : FVec F S256x1024 .f32 := broadcastTo S256x1024 g broadcasts_S1x1024_S256x1024

/-- A modulation row as a row vector. -/
def modV (g : Vec F S1x1x1024 .f32) : FVec F S1x1024 .f32 := shapeCast S1x1024 g shapeCasts_S1x1x1024_S1x1024

/-- Each row divided by its root mean square, times the norm's weights. -/
def normV (v : FVec F S256x1024 .f32) (n : Vec F S1x1024 .f32) : FVec F S256x1024 .f32 :=
  mulf (mulf v (broadcastTo S256x1024 (rsqrt (addf (divf (shapeCast S256x1 (multiReduction .add [1] S256 (mulf v v) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (rowV (shapeCast S1x1024 n shapeCasts_S1x1024_S1x1024))

/-- A residual: the rows plus the gate times the norm of the branch. -/
def resV (x : FVec F S256x1024 .f32) (g : Vec F S1x1x1024 .f32) (n : Vec F S1x1024 .f32) (v : FVec F S256x1024 .f32) : FVec F S256x1024 .f32 :=
  addf x (mulf (rowV (modV g)) (normV v n))

/-- The modulated norm the feed-forward layer reads. -/
def preV (x : FVec F S256x1024 .f32) (n : Vec F S1x1024 .f32) (sc sh : Vec F S1x1x1024 .f32) : FVec F S256x1024 .bf16 :=
  truncf .bf16 (addf (mulf (normV x n) (rowV (addf (broadcast S1x1024 (Scalar.ofBits .f32 0x3F800000#32)) (modV sc)))) (rowV (modV sh))) bitsLt_bf16_f32

/-- A quarter of the feed-forward layer: 1024 of its 4096 hidden columns. -/
def quarterV (h : FVec F S256x1024 .bf16) (u v : Vec F S1024x1024 .bf16) : FVec F S256x1024 .f32 :=
  mm (truncf .bf16 (mulf (maximumf (mm h u) (broadcast S256x1024 (Scalar.ofBits .f32 0x00000000#32))) (maximumf (mm h u) (broadcast S256x1024 (Scalar.ofBits .f32 0x00000000#32)))) bitsLt_bf16_f32) v

/-- The rows after the first residual. -/
def firstV (x : Vec F S256x1024 .f32) (a b : Vec F S256x512 .bf16) (wa wb : Vec F S512x1024 .bf16) (g1 : Vec F S1x1x1024 .f32) (n1 : Vec F S1x1024 .f32) : FVec F S256x1024 .f32 :=
  resV (shapeCast S256x1024 x shapeCasts_S256x1024_S256x1024) g1 n1 (mixV a wa b wb)

/-- The feed-forward layer. -/
def ffnV (h : FVec F S256x1024 .bf16) (u0 u1 u2 u3 v0 v1 v2 v3 : Vec F S1024x1024 .bf16) : FVec F S256x1024 .f32 :=
  addf (addf (addf (quarterV h u0 v0) (quarterV h u1 v1)) (quarterV h u2 v2)) (quarterV h u3 v3)

/-- What the body makes of 256 rows. -/
def halfV (x : Vec F S256x1024 .f32) (a b : Vec F S256x512 .bf16) (wa wb : Vec F S512x1024 .bf16) (g1 s2 c2 g2 : Vec F S1x1x1024 .f32) (n1 n2 n3 : Vec F S1x1024 .f32)
    (u0 u1 u2 u3 v0 v1 v2 v3 : Vec F S1024x1024 .bf16) : FVec F S256x1024 .f32 :=
  resV (firstV x a b wa wb g1 n1) g2 n3 (ffnV (preV (firstV x a b wa wb g1 n1) n2 c2 s2) u0 u1 u2 u3 v0 v1 v2 v3)

/-- The rows of a tile from row `o` on. -/
def rowsAt {n : ℕ} {e : EltTy} (o : ℕ) (ho : o + 256 ≤ 512) (X : Vec F (⟨2, ![512, n]⟩ : Shape) e) : Vec F (⟨2, ![256, n]⟩ : Shape) e :=
  View.ld X (Rect.unit (s := (⟨2, ![512, n]⟩ : Shape)) ![o, 0] ![256, n] (by intro a; fin_cases a <;> simp <;> omega))

/-- What the body makes of the 256 rows of a tile from row `o` on. -/
def tileHalf (o : ℕ) (ho : o + 256 ≤ 512) (X : Vec F S512x1024 .f32) (A B : Vec F S512x512 .bf16) (M : Vec F S1x6x1024 .f32) (N1 N2 N3 : Vec F S1x1024 .f32)
    (W0 : Vec F S1024x1024 .bf16) (W1 : Vec F S1024x4096 .bf16) (W2 : Vec F S4096x1024 .bf16) : FVec F S256x1024 .f32 :=
  halfV (rowsAt o ho X) (rowsAt o ho A) (rowsAt o ho B)
    (View.ld W0 (Rect.unit ![0, 0] S512x1024.size inb_S1024x1024_S512x1024_0_0)) (View.ld W0 (Rect.unit ![512, 0] S512x1024.size inb_S1024x1024_S512x1024_512_0))
    (View.ld M (Rect.unit ![0, 2, 0] S1x1x1024.size inb_S1x6x1024_S1x1x1024_0_2_0)) (View.ld M (Rect.unit ![0, 3, 0] S1x1x1024.size inb_S1x6x1024_S1x1x1024_0_3_0))
    (View.ld M (Rect.unit ![0, 4, 0] S1x1x1024.size inb_S1x6x1024_S1x1x1024_0_4_0)) (View.ld M (Rect.unit ![0, 5, 0] S1x1x1024.size inb_S1x6x1024_S1x1x1024_0_5_0))
    (View.ld N1 (Rect.unit ![0, 0] S1x1024.size inb_S1x1024_S1x1024_0_0)) (View.ld N2 (Rect.unit ![0, 0] S1x1024.size inb_S1x1024_S1x1024_0_0)) (View.ld N3 (Rect.unit ![0, 0] S1x1024.size inb_S1x1024_S1x1024_0_0))
    (View.ld W1 (Rect.unit ![0, 0] S1024x1024.size inb_S1024x4096_S1024x1024_0_0)) (View.ld W1 (Rect.unit ![0, 1024] S1024x1024.size inb_S1024x4096_S1024x1024_0_1024))
    (View.ld W1 (Rect.unit ![0, 2048] S1024x1024.size inb_S1024x4096_S1024x1024_0_2048)) (View.ld W1 (Rect.unit ![0, 3072] S1024x1024.size inb_S1024x4096_S1024x1024_0_3072))
    (View.ld W2 (Rect.unit ![0, 0] S1024x1024.size inb_S4096x1024_S1024x1024_0_0)) (View.ld W2 (Rect.unit ![1024, 0] S1024x1024.size inb_S4096x1024_S1024x1024_1024_0))
    (View.ld W2 (Rect.unit ![2048, 0] S1024x1024.size inb_S4096x1024_S1024x1024_2048_0)) (View.ld W2 (Rect.unit ![3072, 0] S1024x1024.size inb_S4096x1024_S1024x1024_3072_0))

/-- The stores that make up a tile's output: its two halves. -/
def tileL (X : Vec F S512x1024 .f32) (A B : Vec F S512x512 .bf16) (M : Vec F S1x6x1024 .f32) (N1 N2 N3 : Vec F S1x1024 .f32)
    (W0 : Vec F S1024x1024 .bf16) (W1 : Vec F S1024x4096 .bf16) (W2 : Vec F S4096x1024 .bf16) : List (View.Piece (Elt F) S512x1024 .f32) :=
  [⟨Rect.unit ![256, 0] S256x1024.size inb_S512x1024_S256x1024_256_0, tileHalf 256 (by omega) X A B M N1 N2 N3 W0 W1 W2⟩,
   ⟨Rect.unit ![0, 0] S256x1024.size inb_S512x1024_S256x1024_0_0, tileHalf 0 (by omega) X A B M N1 N2 N3 W0 W1 W2⟩]

/-- A load of a buffer that holds `x`. -/
theorem load_unread {sp : Space} {s : Shape} {e : EltTy} (g : Memref sig .tc sp s e) (h : g.IsWhole) (x : Vec F s e) (r : Rect s) :
    View.readAt (Elt F) g.view r.toLoadRect (h.unread x) = View.ld x r := by
  rw [View.readAt_eq_ld, h.read_unread]

set_option maxHeartbeats 1000000 in
/-- The stores at a later prompt point are the tile's. -/
theorem runB_eq (c : Dev nD) (i : grid0.Coords) (hc1 : ¬ k0_cond1 i = 1#1) (hc2 : k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (y0 : Vec F S1024x1024 .bf16) (y1 : Vec F S1024x4096 .bf16) (y2 : Vec F S4096x1024 .bf16) :
    (runB c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 y0 y1 y2).1 = tileL x0 x1 x2 x6 x7 x8 x9 y0 y1 y2 := by
  simp only [runB, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, load_unread]
  rfl

set_option maxHeartbeats 1000000 in
/-- The stores at a sample point are the tile's. -/
theorem runC_eq (c : Dev nD) (i : grid0.Coords) (hc1 : ¬ k0_cond1 i = 1#1) (hc2 : ¬ k0_cond2 i = 1#1) (hc3 : k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (y0 : Vec F S1024x1024 .bf16) (y1 : Vec F S1024x4096 .bf16) (y2 : Vec F S4096x1024 .bf16) :
    (runC c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 y0 y1 y2).1 = tileL x3 x4 x5 x6 x7 x8 x9 y0 y1 y2 := by
  simp only [runC, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, load_unread]
  rfl

end Cert.OutKernelIdeal.Body

end
-- ==== Proof.Rest.lean ====
module
public import Idealize.ShloMosaic.Lib.Pipeline.ValueKit
public import Idealize.ShloMosaic.Lib.IdealHost

/-! The mathematics of the rest of the layer on one row, on plain functions: the output projection, its norm and
residual, the feed-forward layer, its norm and residual. -/

@[expose] public section
noncomputable section
namespace Cert.Rest
open Idealize.ShloMosaic

/-- A row's root-mean-square norm, times the norm's weights. -/
def norm (v n : Fin 1024 → EReal) (k : Fin 1024) : EReal :=
  v k * Ideal.rsqrt (Ideal.div (∑ j, v j * v j) (Ideal.ofBits .f32 1149239296#32) + Ideal.ofBits .f32 897988541#32) * n k

/-- A row plus the gate times the norm of a branch. -/
def res (x g n v : Fin 1024 → EReal) (k : Fin 1024) : EReal := x k + g k * norm v n k

/-- A row's product with a matrix. -/
def proj {p q : ℕ} (h : Fin p → EReal) (w : Fin p → Fin q → EReal) (j : Fin q) : EReal := ∑ k, h k * w k j

/-- The modulated norm the feed-forward layer reads. -/
def pre (v n c s : Fin 1024 → EReal) (k : Fin 1024) : EReal := norm v n k * (1 + c k) + s k

/-- The square of the positive part. -/
def act {q : ℕ} (u : Fin q → EReal) (j : Fin q) : EReal := max (u j) 0 * max (u j) 0

/-- The row after the first residual. -/
def first (x h : Fin 1024 → EReal) (w0 : Fin 1024 → Fin 1024 → EReal) (g n : Fin 1024 → EReal) : Fin 1024 → EReal := res x g n (proj h w0)

/-- The whole of it. -/
def out (x h : Fin 1024 → EReal) (w0 : Fin 1024 → Fin 1024 → EReal) (w1 : Fin 1024 → Fin 4096 → EReal) (w2 : Fin 4096 → Fin 1024 → EReal)
    (g1 s2 c2 g2 n1 n2 n3 : Fin 1024 → EReal) : Fin 1024 → EReal :=
  res (first x h w0 g1 n1) g2 n3 (proj (act (proj (pre (first x h w0 g1 n1) n2 c2 s2) w1)) w2)

/-- A sum over 1024 in two halves. -/
theorem sum_half (f : Fin 1024 → EReal) : ∑ k, f k = ∑ k : Fin 512, f ⟨k, by omega⟩ + ∑ k : Fin 512, f ⟨512 + k, by omega⟩ :=
  Fin.sum_univ_add (a := 512) (b := 512) f

/-- A sum over 4096 in four quarters. -/
theorem sum_quarter (f : Fin 4096 → EReal) : ∑ k, f k = ∑ k : Fin 1024, f ⟨k, by omega⟩ + ∑ k : Fin 1024, f ⟨1024 + k, by omega⟩
    + ∑ k : Fin 1024, f ⟨2048 + k, by omega⟩ + ∑ k : Fin 1024, f ⟨3072 + k, by omega⟩ :=
  (Fin.sum_univ_add (a := 3072) (b := 1024) f).trans (congrArg (· + _)
    ((Fin.sum_univ_add (a := 2048) (b := 1024) _).trans (congrArg (· + _) (Fin.sum_univ_add (a := 1024) (b := 1024) _))))

/-- Two rows side by side. -/
def beside (a b : Fin 512 → EReal) (k : Fin 1024) : EReal := if h : k.val < 512 then a ⟨k, h⟩ else b ⟨k - 512, by omega⟩

/-- Two heads side by side: their outputs' products with the two halves of a matrix, added. -/
theorem proj_half (h a b : _) (w wa wb : _) (hh : ∀ k : Fin 512, h ⟨k, by omega⟩ = a k) (hb : ∀ k : Fin 512, h ⟨512 + k, by omega⟩ = b k)
    (ha : ∀ (k : Fin 512) j, w ⟨k, by omega⟩ j = wa k j) (hw : ∀ (k : Fin 512) j, w ⟨512 + k, by omega⟩ j = wb k j) (j : Fin 1024) :
    proj (p := 1024) h w j = proj (p := 512) a wa j + proj (p := 512) b wb j := by
  unfold proj
  rw [sum_half]
  simp only [hh, hb, ha, hw]

end Cert.Rest
end
-- ==== Proof.OutI.At.lean ====
module

public import proofs.«01_k».proof.Proof.OutI.Half
public import proofs.«01_k».proof.Proof.Rest
public import Idealize.ShloMosaic.Lib.Pipeline.ReadBack

/-! What the body makes of 256 rows, read at a row and a column. -/

@[expose] public section

set_option maxRecDepth 16384

noncomputable section

namespace Cert.OutKernelIdeal.Body

open Cert.OutKernelIdeal Cert.OutKernelIdeal.Gen Cert.Rest
open Idealize.ShloMosaic Idealize.ShloMosaic.TcCoe

theorem mixV_at (a b : Vec Ideal S256x512 .bf16) (wa wb : Vec Ideal S512x1024 .bf16) (r : Fin 256) (j : Fin 1024) :
    mixV a wa b wb (ix2 r j) = proj (fun k => a (ix2 r k)) (fun k j => wa (ix2 k j)) j + proj (fun k => b (ix2 r k)) (fun k j => wb (ix2 k j)) j := by
  pointwise [mixV]
  rfl

theorem normV_at (v : FVec Ideal S256x1024 .f32) (n : Vec Ideal S1x1024 .f32) (r : Fin 256) (j : Fin 1024) :
    normV v n (ix2 r j) = norm (fun k => v (ix2 r k)) (fun k => n (ix2 0 k)) j := by
  pointwise [normV, rowV]
  rfl

theorem modV_at (g : Vec Ideal S1x1x1024 .f32) (j : Fin 1024) : modV g (ix2 0 j) = g (ix3 0 0 j) := by
  pointwise [modV]

theorem rowV_at (g : FVec Ideal S1x1024 .f32) (r : Fin 256) (j : Fin 1024) : rowV g (ix2 r j) = g (ix2 0 j) := by
  pointwise [rowV]

theorem resV_at (x : FVec Ideal S256x1024 .f32) (g : Vec Ideal S1x1x1024 .f32) (n : Vec Ideal S1x1024 .f32) (v : FVec Ideal S256x1024 .f32) (r : Fin 256) (j : Fin 1024) :
    resV x g n v (ix2 r j) = res (fun k => x (ix2 r k)) (fun k => g (ix3 0 0 k)) (fun k => n (ix2 0 k)) (fun k => v (ix2 r k)) j := by
  unfold res resV
  dsimp only
  rw [← normV_at, ← modV_at g, ← rowV_at (modV g) r]
  rfl

theorem preV_at (x : FVec Ideal S256x1024 .f32) (n : Vec Ideal S1x1024 .f32) (sc sh : Vec Ideal S1x1x1024 .f32) (r : Fin 256) (j : Fin 1024) :
    preV x n sc sh (ix2 r j) = pre (fun k => x (ix2 r k)) (fun k => n (ix2 0 k)) (fun k => sc (ix3 0 0 k)) (fun k => sh (ix3 0 0 k)) j := by
  unfold pre
  dsimp only
  rw [← normV_at, ← modV_at sc, ← modV_at sh]
  unfold preV
  generalize normV x n = y
  generalize modV sc = c
  generalize modV sh = s
  pointwise [rowV]

theorem mm_at (h : FVec Ideal S256x1024 .bf16) (u : Vec Ideal S1024x1024 .bf16) (r : Fin 256) (j : Fin 1024) :
    mm h u (ix2 r j) = proj (fun k => h (ix2 r k)) (fun k j => u (ix2 k j)) j := by
  pointwise [mm]
  rfl

theorem quarterV_at (h : FVec Ideal S256x1024 .bf16) (u v : Vec Ideal S1024x1024 .bf16) (r : Fin 256) (j : Fin 1024) :
    quarterV h u v (ix2 r j) = proj (act (proj (fun k => h (ix2 r k)) (fun k j => u (ix2 k j)))) (fun k j => v (ix2 k j)) j := by
  unfold quarterV
  rw [mm_at]
  rw [show proj (fun k => h (ix2 r k)) (fun k j => u (ix2 k j)) = fun j => mm h u (ix2 r j) from funext fun j => (mm_at h u r j).symm]
  generalize mm h u = y
  congr 1
  funext k
  pointwise [act]

theorem firstV_at (x : Vec Ideal S256x1024 .f32) (a b : Vec Ideal S256x512 .bf16) (wa wb : Vec Ideal S512x1024 .bf16) (g1 : Vec Ideal S1x1x1024 .f32) (n1 : Vec Ideal S1x1024 .f32)
    (r : Fin 256) (H : Fin 1024 → EReal) (W0 : Fin 1024 → Fin 1024 → EReal)
    (ha : ∀ k : Fin 512, H ⟨k, by omega⟩ = a (ix2 r k)) (hb : ∀ k : Fin 512, H ⟨512 + k, by omega⟩ = b (ix2 r k))
    (hwa : ∀ (k : Fin 512) j, W0 ⟨k, by omega⟩ j = wa (ix2 k j)) (hwb : ∀ (k : Fin 512) j, W0 ⟨512 + k, by omega⟩ j = wb (ix2 k j)) :
    (fun j => firstV x a b wa wb g1 n1 (ix2 r j)) = first (fun k => x (ix2 r k)) H W0 (fun k => g1 (ix3 0 0 k)) (fun k => n1 (ix2 0 k)) := by
  funext j
  unfold firstV first
  rw [resV_at]
  have e : (fun k => mixV a wa b wb (ix2 r k)) = proj H W0 := by
    funext k
    rw [mixV_at]
    exact (proj_half H (fun k => a (ix2 r k)) (fun k => b (ix2 r k)) W0 (fun k j => wa (ix2 k j)) (fun k j => wb (ix2 k j)) ha hb hwa hwb k).symm
  rw [e]
  congr 1
  funext k
  pointwise

theorem ffnV_at (h : FVec Ideal S256x1024 .bf16) (u0 u1 u2 u3 v0 v1 v2 v3 : Vec Ideal S1024x1024 .bf16) (r : Fin 256) (W1 : Fin 1024 → Fin 4096 → EReal) (W2 : Fin 4096 → Fin 1024 → EReal)
    (hu0 : ∀ k (q : Fin 1024), W1 k ⟨q, by omega⟩ = u0 (ix2 k q)) (hu1 : ∀ k (q : Fin 1024), W1 k ⟨1024 + q, by omega⟩ = u1 (ix2 k q))
    (hu2 : ∀ k (q : Fin 1024), W1 k ⟨2048 + q, by omega⟩ = u2 (ix2 k q)) (hu3 : ∀ k (q : Fin 1024), W1 k ⟨3072 + q, by omega⟩ = u3 (ix2 k q))
    (hv0 : ∀ (q : Fin 1024) j, W2 ⟨q, by omega⟩ j = v0 (ix2 q j)) (hv1 : ∀ (q : Fin 1024) j, W2 ⟨1024 + q, by omega⟩ j = v1 (ix2 q j))
    (hv2 : ∀ (q : Fin 1024) j, W2 ⟨2048 + q, by omega⟩ j = v2 (ix2 q j)) (hv3 : ∀ (q : Fin 1024) j, W2 ⟨3072 + q, by omega⟩ j = v3 (ix2 q j)) (j : Fin 1024) :
    ffnV h u0 u1 u2 u3 v0 v1 v2 v3 (ix2 r j) = proj (act (proj (fun k => h (ix2 r k)) W1)) W2 j := by
  have e : ffnV h u0 u1 u2 u3 v0 v1 v2 v3 (ix2 r j)
      = quarterV h u0 v0 (ix2 r j) + quarterV h u1 v1 (ix2 r j) + quarterV h u2 v2 (ix2 r j) + quarterV h u3 v3 (ix2 r j) := rfl
  rw [e]
  simp only [quarterV_at]
  unfold proj
  rw [sum_quarter]
  simp only [act, hu0, hu1, hu2, hu3, hv0, hv1, hv2, hv3]

/-- What the body makes of a row. -/
theorem halfV_at (x : Vec Ideal S256x1024 .f32) (a b : Vec Ideal S256x512 .bf16) (wa wb : Vec Ideal S512x1024 .bf16) (g1 s2 c2 g2 : Vec Ideal S1x1x1024 .f32) (n1 n2 n3 : Vec Ideal S1x1024 .f32)
    (u0 u1 u2 u3 v0 v1 v2 v3 : Vec Ideal S1024x1024 .bf16)
    (r : Fin 256) (H : Fin 1024 → EReal) (W0 : Fin 1024 → Fin 1024 → EReal) (W1 : Fin 1024 → Fin 4096 → EReal) (W2 : Fin 4096 → Fin 1024 → EReal)
    (ha : ∀ k : Fin 512, H ⟨k, by omega⟩ = a (ix2 r k)) (hb : ∀ k : Fin 512, H ⟨512 + k, by omega⟩ = b (ix2 r k))
    (hwa : ∀ (k : Fin 512) j, W0 ⟨k, by omega⟩ j = wa (ix2 k j)) (hwb : ∀ (k : Fin 512) j, W0 ⟨512 + k, by omega⟩ j = wb (ix2 k j))
    (hu0 : ∀ k (q : Fin 1024), W1 k ⟨q, by omega⟩ = u0 (ix2 k q)) (hu1 : ∀ k (q : Fin 1024), W1 k ⟨1024 + q, by omega⟩ = u1 (ix2 k q))
    (hu2 : ∀ k (q : Fin 1024), W1 k ⟨2048 + q, by omega⟩ = u2 (ix2 k q)) (hu3 : ∀ k (q : Fin 1024), W1 k ⟨3072 + q, by omega⟩ = u3 (ix2 k q))
    (hv0 : ∀ (q : Fin 1024) j, W2 ⟨q, by omega⟩ j = v0 (ix2 q j)) (hv1 : ∀ (q : Fin 1024) j, W2 ⟨1024 + q, by omega⟩ j = v1 (ix2 q j))
    (hv2 : ∀ (q : Fin 1024) j, W2 ⟨2048 + q, by omega⟩ j = v2 (ix2 q j)) (hv3 : ∀ (q : Fin 1024) j, W2 ⟨3072 + q, by omega⟩ j = v3 (ix2 q j)) (j : Fin 1024) :
    halfV x a b wa wb g1 s2 c2 g2 n1 n2 n3 u0 u1 u2 u3 v0 v1 v2 v3 (ix2 r j)
      = out (fun k => x (ix2 r k)) H W0 W1 W2 (fun k => g1 (ix3 0 0 k)) (fun k => s2 (ix3 0 0 k)) (fun k => c2 (ix3 0 0 k)) (fun k => g2 (ix3 0 0 k))
          (fun k => n1 (ix2 0 k)) (fun k => n2 (ix2 0 k)) (fun k => n3 (ix2 0 k)) j := by
  unfold halfV out
  rw [resV_at, firstV_at x a b wa wb g1 n1 r H W0 ha hb hwa hwb]
  congr 1
  funext j
  rw [ffnV_at _ u0 u1 u2 u3 v0 v1 v2 v3 r W1 W2 hu0 hu1 hu2 hu3 hv0 hv1 hv2 hv3]
  congr 3
  funext k
  rw [preV_at, firstV_at x a b wa wb g1 n1 r H W0 ha hb hwa hwb]

/-- What the tile's two stores leave at a row and a column. -/
theorem tileHalf_at (o : ℕ) (ho : o + 256 ≤ 512) (X : Vec Ideal S512x1024 .f32) (A B : Vec Ideal S512x512 .bf16) (M : Vec Ideal S1x6x1024 .f32) (N1 N2 N3 : Vec Ideal S1x1024 .f32)
    (W0 : Vec Ideal S1024x1024 .bf16) (W1 : Vec Ideal S1024x4096 .bf16) (W2 : Vec Ideal S4096x1024 .bf16) (r : Fin 256) (j : Fin 1024) (r' : Fin 512) (hr : (r' : ℕ) = o + r) :
    tileHalf o ho X A B M N1 N2 N3 W0 W1 W2 (ix2 r j)
      = out (fun k => X (ix2 r' k)) (beside (fun k => A (ix2 r' k)) (fun k => B (ix2 r' k))) (fun k j => W0 (ix2 k j)) (fun k j => W1 (ix2 k j)) (fun k j => W2 (ix2 k j))
          (fun k => M (ix3 0 2 k)) (fun k => M (ix3 0 3 k)) (fun k => M (ix3 0 4 k)) (fun k => M (ix3 0 5 k))
          (fun k => N1 (ix2 0 k)) (fun k => N2 (ix2 0 k)) (fun k => N3 (ix2 0 k)) j := by
  unfold tileHalf
  refine (halfV_at _ _ _ _ _ _ _ _ _ _ _ _ _ _ _ _ _ _ _ _ r (beside (fun k => A (ix2 r' k)) (fun k => B (ix2 r' k))) (fun k j => W0 (ix2 k j)) (fun k j => W1 (ix2 k j)) (fun k j => W2 (ix2 k j))
    ?_ ?_ ?_ ?_ ?_ ?_ ?_ ?_ ?_ ?_ ?_ ?_ j).trans ?_
  · intro k; unfold beside; rw [dif_pos (show k.val < 512 from k.isLt)]; refine congrArg A ?_; funext a; apply Fin.ext; fin_cases a <;> simp [hr]
  · intro k; unfold beside; rw [dif_neg (show ¬ 512 + k.val < 512 by omega)]; refine congrArg B ?_; funext a; apply Fin.ext; fin_cases a <;> simp [hr]
  · intro k j; refine congrArg W0 ?_; funext a; apply Fin.ext; fin_cases a <;> simp
  · intro k j; refine congrArg W0 ?_; funext a; apply Fin.ext; fin_cases a <;> simp
  · intro k j; refine congrArg W1 ?_; funext a; apply Fin.ext; fin_cases a <;> simp
  · intro k j; refine congrArg W1 ?_; funext a; apply Fin.ext; fin_cases a <;> simp
  · intro k j; refine congrArg W1 ?_; funext a; apply Fin.ext; fin_cases a <;> simp
  · intro k j; refine congrArg W1 ?_; funext a; apply Fin.ext; fin_cases a <;> simp
  · intro k j; refine congrArg W2 ?_; funext a; apply Fin.ext; fin_cases a <;> simp
  · intro k j; refine congrArg W2 ?_; funext a; apply Fin.ext; fin_cases a <;> simp
  · intro k j; refine congrArg W2 ?_; funext a; apply Fin.ext; fin_cases a <;> simp
  · intro k j; refine congrArg W2 ?_; funext a; apply Fin.ext; fin_cases a <;> simp
  · have eX : (fun k => rowsAt o ho X (ix2 r k)) = fun k => X (ix2 r' k) := by
      funext k; refine congrArg X ?_; funext a; apply Fin.ext; fin_cases a <;> simp [hr]
    have eM : ∀ (i : ℕ) (i' : Fin 6) (hi : (i' : ℕ) = i) (h), (fun k => View.ld (Val := Elt Ideal) M (Rect.unit ![0, i, 0] S1x1x1024.size h) (ix3 0 0 k)) = fun k => M (ix3 0 i' k) := by
      intro i i' hi h; funext k; refine congrArg M ?_; funext a; apply Fin.ext; fin_cases a <;> simp [hi]
    have eN : ∀ (N : Vec Ideal S1x1024 .f32) (h), (fun k => View.ld (Val := Elt Ideal) N (Rect.unit ![0, 0] S1x1024.size h) (ix2 0 k)) = fun k => N (ix2 0 k) := by
      intro N h; funext k; refine congrArg N ?_; funext a; apply Fin.ext; fin_cases a <;> simp
    rw [eX, eM 2 2 rfl, eM 3 3 rfl, eM 4 4 rfl, eM 5 5 rfl, eN, eN, eN]

theorem tile_at (X : Vec Ideal S512x1024 .f32) (A B : Vec Ideal S512x512 .bf16) (M : Vec Ideal S1x6x1024 .f32) (N1 N2 N3 : Vec Ideal S1x1024 .f32)
    (W0 : Vec Ideal S1024x1024 .bf16) (W1 : Vec Ideal S1024x4096 .bf16) (W2 : Vec Ideal S4096x1024 .bf16) (r : Fin 512) (j : Fin 1024) :
    View.canon (tileL X A B M N1 N2 N3 W0 W1 W2) (ix2 r j)
      = out (fun k => X (ix2 r k)) (beside (fun k => A (ix2 r k)) (fun k => B (ix2 r k))) (fun k j => W0 (ix2 k j)) (fun k j => W1 (ix2 k j)) (fun k j => W2 (ix2 k j))
          (fun k => M (ix3 0 2 k)) (fun k => M (ix3 0 3 k)) (fun k => M (ix3 0 4 k)) (fun k => M (ix3 0 5 k))
          (fun k => N1 (ix2 0 k)) (fun k => N2 (ix2 0 k)) (fun k => N3 (ix2 0 k)) j := by
  unfold tileL
  by_cases h : r.val < 256
  · have e : ix2 r j = (Rect.unit (s := S512x1024) ![0, 0] S256x1024.size inb_S512x1024_S256x1024_0_0).emb (ix2 (⟨r, h⟩ : Fin 256) j) := by
      funext a; apply Fin.ext; fin_cases a <;> simp
    rw [View.canon_cons_of_not_mem, e, View.canon_cons_emb]
    · exact tileHalf_at 0 _ X A B M N1 N2 N3 W0 W1 W2 ⟨r, h⟩ j r (by simp)
    · intro hm
      rw [Rect.mem_set_unit] at hm
      have h0 : 256 ≤ r.val := (hm 0).1
      omega
  · have e : ix2 r j = (Rect.unit (s := S512x1024) ![256, 0] S256x1024.size inb_S512x1024_S256x1024_256_0).emb (ix2 (⟨r - 256, by omega⟩ : Fin 256) j) := by
      funext a; apply Fin.ext; fin_cases a <;> simp; omega
    rw [e, View.canon_cons_emb]
    exact tileHalf_at 256 _ X A B M N1 N2 N3 W0 W1 W2 ⟨r - 256, by omega⟩ j r (by simp; omega)

end Cert.OutKernelIdeal.Body
end
-- ==== Proof.OutI.RunA.lean ====
module

public import proofs.«01_k».proof.Proof.Gen.OutKernelIdeal.Frame
public import proofs.«01_k».proof.Proof.Gen.OutKernelIdeal.Skeleton
public import Idealize.ShloMosaic.Lib.Tactic
public import Idealize.ShloMosaic.Lib.Pipeline.Kit

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The four semaphores of the kernel's own copies. -/
abbrev osem : Fin 4 → SemLoc sig := fun | 0 => .dma 21 | 1 => .dma 22 | 2 => .dma 23 | 3 => .dma 24

set_option sl_exec.dmaWindow true in
set_option maxHeartbeats 8000000 in
/-- The body at the first point: what it leaves in the prompt's block and in the three weight buffers, as lists of stores. -/
noncomputable def runA (c : Dev nD) (i : grid0.Coords) (hc1 : k0_cond1 i = 1#1) (hc2 : ¬ k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    Σ' (L : List (View.Piece (Elt F) S512x1024 .f32)), Σ' (LT0 : List (View.Piece (Elt F) S1024x1024 .bf16)), Σ' (LT1 : List (View.Piece (Elt F) S1024x4096 .bf16)), { LT2 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ d, owns (c : Thread nD τ) arg14 fullShare d) ∗ (arg8.view.loc (c : Thread nD τ) ↦{fullShare} g8) ∗ (arg12.view.loc (c : Thread nD τ) ↦{fullShare} g12) ∗ (arg13.view.loc (c : Thread nD τ) ↦{fullShare} g13) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦{fullShare} g19) ∗ semVal ((c : Thread nD τ), osem 0) 0 ∗ semVal ((c : Thread nD τ), osem 1) 0 ∗ semVal ((c : Thread nD τ), osem 2) 0 ∗ semVal ((c : Thread nD τ), osem 3) 0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ (∃ f, arg14.view.loc (c : Thread nD τ) ↦[arg14.view.set]{fullShare} arg14.view.writes (Elt F) f L) ∗ (arg8.view.loc (c : Thread nD τ) ↦{fullShare} g8) ∗ (arg12.view.loc (c : Thread nD τ) ↦{fullShare} g12) ∗ (arg13.view.loc (c : Thread nD τ) ↦{fullShare} g13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LT2) ∗ (∃ f : Buf (Elt F) (arg19.view.loc (c : Thread nD τ)), arg19.view.loc (c : Thread nD τ) ↦{fullShare} f) ∗ semVal ((c : Thread nD τ), osem 0) 0 ∗ semVal ((c : Thread nD τ), osem 1) 0 ∗ semVal ((c : Thread nD τ), osem 2) 0 ∗ semVal ((c : Thread nD τ), osem 3) 0 ∗ (∃ W, owes (c : Thread nD τ) 0 W)) -∗ K ⟨⟩))
          ⊢ wp frame (wpE (defs₀ (F := F)) Variants.none c none) Set.univ (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 cc0_scratch4) K } := by
  refine ⟨?_, ?_, ?_, ?_, fun W K => ?run⟩
  case run =>
    simp only [cc0_out_mlp_eq_skeleton]; unfold cc0_out_mlp_skel
    simp only [dif_pos hc1, dif_neg hc2, dif_neg hc3, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f, -, H10⟩, HG6, HG7, HG8, ⟨%ds0, %fs0, -, HS0⟩, ⟨%ds1, %fs1, -, HS1⟩, ⟨%ds2, %fs2, -, HS2⟩, HS3, HD0, HD1, HD2, HD3, HO, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HG6]; · iexact HG6
    isplitl [HG7]; · iexact HG7
    isplitl [HG8]; · iexact HG8
    isplitl [HS0]; · iexists _; iexact HS0
    isplitl [HS1]; · iexists _; iexact HS1
    isplitl [HS2]; · iexists _; iexact HS2
    isplitl [HS3]; · iexists _; iexact HS3
    isplitl [HD0]; · iexact HD0
    isplitl [HD1]; · iexact HD1
    isplitl [HD2]; · iexact HD2
    isplitl [HD3]; · iexact HD3
    iexists _; iexact HO

end Cert.OutKernelIdeal.Body

end
-- ==== Proof.OutI.Stage.lean ====
module

public import proofs.«01_k».proof.Proof.OutI.RunA
public import proofs.«01_k».proof.Proof.OutI.Half
public import Idealize.ShloMosaic.Lib.Pipeline.ReadBack
public import Idealize.ShloMosaic.Lib.WritesUnit

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI Idealize.SL.Sem

variable {F : FTy → Type} [FloatOps F]

/-- A slot of the stage read right after a copy filled it: the copy's payload. -/
theorem slot_hit {sp : Space} (v : View sig .tc sp S4x512x1024 .f32) (k : ℕ) (h1 h2 h4 h5) (f : v.ty.Contents (Elt F)) (P : Vec F S512x1024 .f32) :
    shapeCast S512x1024 (View.readAt (Elt F) v (Rect.unit (s := S4x512x1024) ![k, 0, 0] ![1, 512, 1024] h1).toLoadRect
      (View.write (Elt F) ((v.slice (Rect.unit (s := S4x512x1024) ![k, 0, 0] ![1, 512, 1024] h2)).reshape S512x1024 h4) f P Finset.univ)) h5 = P :=
  View.read_write_univ (Val := Elt F) (v := (v.slice (Rect.unit (s := S4x512x1024) ![k, 0, 0] ![1, 512, 1024] h2)).reshape S512x1024 h4) f P

/-- A slot of the stage read after a copy filled another: what it held before. -/
theorem slot_miss {sp : Space} (v : View sig .tc sp S4x512x1024 .f32) (k j : ℕ) (hkj : k ≠ j) (h1 h2 h4) (f : v.ty.Contents (Elt F)) (P : Vec F S512x1024 .f32) :
    View.readAt (Elt F) v (Rect.unit (s := S4x512x1024) ![k, 0, 0] ![1, 512, 1024] h1).toLoadRect
      (View.write (Elt F) ((v.slice (Rect.unit (s := S4x512x1024) ![j, 0, 0] ![1, 512, 1024] h2)).reshape S512x1024 h4) f P Finset.univ)
      = View.readAt (Elt F) v (Rect.unit (s := S4x512x1024) ![k, 0, 0] ![1, 512, 1024] h1).toLoadRect f := by
  rw [View.readAt_rect, View.readAt_rect]
  refine View.read_congr fun i hi => View.write_of_not_mem _ _ _ fun hi' => ?_
  obtain ⟨x, -, rfl⟩ := Finset.mem_map.mp hi
  obtain ⟨y, -, hy⟩ := Finset.mem_map.mp hi'
  have e : (Rect.unit (s := S4x512x1024) ![j, 0, 0] ![1, 512, 1024] h2).emb (Shape.reshapeEquiv h4 y) = (Rect.unit (s := S4x512x1024) ![k, 0, 0] ![1, 512, 1024] h1).emb x := v.emb.injective hy
  have e0 := congrArg Fin.val (congrFun e 0)
  have a : ((Shape.reshapeEquiv h4 y) 0).val < 1 := ((Shape.reshapeEquiv h4 y) 0).isLt
  have b : (x 0).val < 1 := (x 0).isLt
  have e1 : j + 1 * ((Shape.reshapeEquiv h4 y) 0).val = k + 1 * (x 0).val := e0
  omega

/-- Weights at the width the products take. -/
def castW {s : Shape} (w : Vec F s .f32) : Vec F s .bf16 := truncf .bf16 w bitsLt_bf16_f32

theorem canon_of_piecesOf {s : Shape} {e : EltTy} (G : Vec F s e) (L : List (View.Piece (Elt F) s e)) (h : View.PiecesOf G L) (y : s.Idx)
    (hc : ∃ p ∈ L, y ∈ p.1.set) : View.canon L y = G y := by
  have := View.canon_append_of_piecesOf G [] L h y hc
  rwa [List.append_nil] at this

/-- The stores of a weight buffer so far are blocks of its matrix. -/
theorem HS0_2_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg8.view.read (Elt F) g8)) (runA.sl.HS0_2 c arg8 arg12 arg13 arg19 g8 g12 g13 g19) := by
  unfold runA.sl.HS0_2
  refine ⟨fun x => ?_, fun x => ?_, trivial⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS1_2_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg12.view.read (Elt F) g12)) (runA.sl.HS1_2 c arg8 arg12 arg13 arg19 g8 g12 g13 g19) := by
  unfold runA.sl.HS1_2
  refine ⟨fun x => ?_, fun x => ?_, trivial⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS1_4_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg12.view.read (Elt F) g12)) (runA.sl.HS1_4 c arg8 arg12 arg13 arg19 g8 g12 g13 g19) := by
  unfold runA.sl.HS1_4
  refine ⟨fun x => ?_, fun x => ?_, HS1_2_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS1_6_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg12.view.read (Elt F) g12)) (runA.sl.HS1_6 c arg8 arg12 arg13 arg19 g8 g12 g13 g19) := by
  unfold runA.sl.HS1_6
  refine ⟨fun x => ?_, fun x => ?_, HS1_4_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS1_8_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg12.view.read (Elt F) g12)) (runA.sl.HS1_8 c arg8 arg12 arg13 arg19 g8 g12 g13 g19) := by
  unfold runA.sl.HS1_8
  refine ⟨fun x => ?_, fun x => ?_, HS1_6_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS2_2_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg13.view.read (Elt F) g13)) (runA.sl.HS2_2 c arg8 arg12 arg13 arg19 g8 g12 g13 g19) := by
  unfold runA.sl.HS2_2
  refine ⟨fun x => ?_, fun x => ?_, trivial⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS2_4_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg13.view.read (Elt F) g13)) (runA.sl.HS2_4 c arg8 arg12 arg13 arg19 g8 g12 g13 g19) := by
  unfold runA.sl.HS2_4
  refine ⟨fun x => ?_, fun x => ?_, HS2_2_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS2_6_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg13.view.read (Elt F) g13)) (runA.sl.HS2_6 c arg8 arg12 arg13 arg19 g8 g12 g13 g19) := by
  unfold runA.sl.HS2_6
  refine ⟨fun x => ?_, fun x => ?_, HS2_4_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- The stores of a weight buffer so far are blocks of its matrix. -/
theorem HS2_8_pieces (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    View.PiecesOf (castW (arg13.view.read (Elt F) g13)) (runA.sl.HS2_8 c arg8 arg12 arg13 arg19 g8 g12 g13 g19) := by
  unfold runA.sl.HS2_8
  refine ⟨fun x => ?_, fun x => ?_, HS2_6_pieces c arg8 arg12 arg13 arg19 g8 g12 g13 g19⟩ <;>
  · simp (discharger := decide) only [k0_pay1, k0_pay2, k0_pay8, k0_pay9, k0_pay10, k0_pay11, k0_pay12, k0_pay18, k0_pay19, k0_pay20, k0_pay21, k0_pay22, k0_pay27, k0_pay28, k0_pay29, k0_pay30, k0_pay34, k0_pay35, k0_pay36, k0_pay37, runA.sl.v36, runA.sl.v52, runA.sl.v128, runA.sl.v144, runA.sl.v160, runA.sl.v176, runA.sl.v246, runA.sl.v262, runA.sl.v278, runA.sl.v294, runA.sl.v327, runA.sl.v343, runA.sl.v359, runA.sl.v375, runA.sl.v409, runA.sl.v420, runA.sl.v431, runA.sl.v442, runA.sl.r_5, runA.sl.r_11, slot_miss]
    simp only [runA.sl.dma0, runA.sl.dma0_1, runA.sl.dma0_2, runA.sl.dma0_3, runA.sl.dma3, runA.sl.dma6, runA.sl.dma23, runA.sl.dma26, runA.sl.dma29, runA.sl.dma32, runA.sl.dma43, runA.sl.dma46, runA.sl.dma49, runA.sl.dma52, runA.sl.dma59, runA.sl.dma62, runA.sl.dma65, runA.sl.dma68, shapeCast_self]
    refine (congrFun (congrArg (fun z => truncf .bf16 z bitsLt_bf16_f32) (slot_hit _ _ _ _ _ _ _ _)) x).trans ?_
    rfl

/-- An index whose coordinates lie in a box of two axes. -/
theorem mem_box {n m : ℕ} (o q a b : ℕ) (inb : ∀ i, (![o, q] : Fin 2 → ℕ) i + (![a, b] : Fin 2 → ℕ) i ≤ (⟨2, ![n, m]⟩ : Shape).size i)
    (y : (⟨2, ![n, m]⟩ : Shape).Idx) (h0 : o ≤ (y 0).val) (h0' : (y 0).val < o + a) (h1 : q ≤ (y 1).val) (h1' : (y 1).val < q + b) :
    y ∈ (Rect.unit (s := (⟨2, ![n, m]⟩ : Shape)) ![o, q] ![a, b] inb).set := by
  have h : ∀ i : Fin 2, (![o, q] : Fin 2 → ℕ) i ≤ (y i).val ∧ (y i).val < (![o, q] : Fin 2 → ℕ) i + (![a, b] : Fin 2 → ℕ) i :=
    Fin.forall_fin_two.mpr ⟨⟨h0, h0'⟩, ⟨h1, h1'⟩⟩
  rw [← Rect.map_emb_univ]
  refine Finset.mem_map.mpr ⟨Rect.unitLocal (s := (⟨2, ![n, m]⟩ : Shape)) (off := ![o, q]) (size := ![a, b]) y h, Finset.mem_univ _, funext fun i => Fin.ext ?_⟩
  have hi := (h i).1
  show (![o, q] : Fin 2 → ℕ) i + 1 * ((y i).val - (![o, q] : Fin 2 → ℕ) i) = (y i).val
  omega

/-- A square of 1024 rows loaded after the stores of its two halves. -/
theorem cov2 {n m : ℕ} (L : List (View.Piece (Elt F) (⟨2, ![n, m]⟩ : Shape) .bf16)) (lo hi q : ℕ) (he : hi = lo + 512) (inb inb0 inb1) (w0 w1)
    (h1 : (⟨Rect.unit (s := (⟨2, ![n, m]⟩ : Shape)) ![hi, q] ![512, 1024] inb1, w1⟩ : View.Piece (Elt F) (⟨2, ![n, m]⟩ : Shape) .bf16) ∈ L)
    (h0 : (⟨Rect.unit (s := (⟨2, ![n, m]⟩ : Shape)) ![lo, q] ![512, 1024] inb0, w0⟩ : View.Piece (Elt F) (⟨2, ![n, m]⟩ : Shape) .bf16) ∈ L)
    (j : (Rect.unit (s := (⟨2, ![n, m]⟩ : Shape)) ![lo, q] ![1024, 1024] inb).shape.Idx) :
    ∃ p ∈ L, (Rect.unit (s := (⟨2, ![n, m]⟩ : Shape)) ![lo, q] ![1024, 1024] inb).toLoadRect.idx j ∈ p.1.set := by
  have b0 : (j 0).val < 1024 := (j 0).isLt
  have b1 : (j 1).val < 1024 := (j 1).isLt
  have e0 : ((Rect.unit (s := (⟨2, ![n, m]⟩ : Shape)) ![lo, q] ![1024, 1024] inb).toLoadRect.idx j 0).val = lo + 1 * (j 0).val := rfl
  have e1 : ((Rect.unit (s := (⟨2, ![n, m]⟩ : Shape)) ![lo, q] ![1024, 1024] inb).toLoadRect.idx j 1).val = q + 1 * (j 1).val := rfl
  by_cases hj : (j 0).val < 512
  · exact ⟨_, h0, mem_box lo q 512 1024 inb0 _ (by omega) (by omega) (by omega) (by omega)⟩
  · exact ⟨_, h1, mem_box hi q 512 1024 inb1 _ (by omega) (by omega) (by omega) (by omega)⟩

/-- A box of 512 rows loaded after its store. -/
theorem cov1 {n m : ℕ} (L : List (View.Piece (Elt F) (⟨2, ![n, m]⟩ : Shape) .bf16)) (lo q : ℕ) (inb inb0) (w0)
    (h0 : (⟨Rect.unit (s := (⟨2, ![n, m]⟩ : Shape)) ![lo, q] ![512, 1024] inb0, w0⟩ : View.Piece (Elt F) (⟨2, ![n, m]⟩ : Shape) .bf16) ∈ L)
    (j : (Rect.unit (s := (⟨2, ![n, m]⟩ : Shape)) ![lo, q] ![512, 1024] inb).shape.Idx) :
    ∃ p ∈ L, (Rect.unit (s := (⟨2, ![n, m]⟩ : Shape)) ![lo, q] ![512, 1024] inb).toLoadRect.idx j ∈ p.1.set := by
  have b0 : (j 0).val < 512 := (j 0).isLt
  have b1 : (j 1).val < 1024 := (j 1).isLt
  have e0 : ((Rect.unit (s := (⟨2, ![n, m]⟩ : Shape)) ![lo, q] ![512, 1024] inb).toLoadRect.idx j 0).val = lo + 1 * (j 0).val := rfl
  have e1 : ((Rect.unit (s := (⟨2, ![n, m]⟩ : Shape)) ![lo, q] ![512, 1024] inb).toLoadRect.idx j 1).val = q + 1 * (j 1).val := rfl
  exact ⟨_, h0, mem_box lo q 512 1024 inb0 _ (by omega) (by omega) (by omega) (by omega)⟩

/-- A load of a weight buffer at the first point. -/
theorem v64_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg16 : Memref sig .tc .vmem S1024x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v64 c arg8 arg12 arg13 arg16 arg19 g8 g12 g13 g19 = View.ld (castW (arg8.view.read (Elt F) g8)) (Rect.unit ![0, 0] S512x1024.size inb_S1024x1024_S512x1024_0_0) := by
  unfold runA.sl.v64
  rw [View.readCov_eq_canon']
  funext j
  exact canon_of_piecesOf _ _ (HS0_2_pieces c arg8 arg12 arg13 arg19 g8 g12 g13 g19) _ (cov1 _ 0 0 _ _ _ (.tail _ (.head _)) j)

/-- A load of a weight buffer at the first point. -/
theorem v463_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v463 c arg8 arg12 arg13 arg18 arg19 g8 g12 g13 g19 = View.ld (castW (arg13.view.read (Elt F) g13)) (Rect.unit ![2048, 0] S1024x1024.size inb_S4096x1024_S1024x1024_2048_0) := by
  unfold runA.sl.v463
  rw [View.readCov_eq_canon']
  funext j
  exact canon_of_piecesOf _ _ (HS2_8_pieces c arg8 arg12 arg13 arg19 g8 g12 g13 g19) _ (cov2 _ 2048 2560 0 rfl _ _ _ _ _ (.tail _ (.tail _ (.head _))) (.tail _ (.tail _ (.tail _ (.head _)))) j)

/-- A load of a weight buffer at the first point. -/
theorem v187_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v187 c arg8 arg12 arg13 arg17 arg19 g8 g12 g13 g19 = View.ld (castW (arg12.view.read (Elt F) g12)) (Rect.unit ![0, 0] S1024x1024.size inb_S1024x4096_S1024x1024_0_0) := by
  unfold runA.sl.v187
  rw [View.readCov_eq_canon']
  funext j
  exact canon_of_piecesOf _ _ (HS1_2_pieces c arg8 arg12 arg13 arg19 g8 g12 g13 g19) _ (cov2 _ 0 512 0 rfl _ _ _ _ _ (.head _) (.tail _ (.head _)) j)

/-- A load of a weight buffer at the first point. -/
theorem v305_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v305 c arg8 arg12 arg13 arg17 arg19 g8 g12 g13 g19 = View.ld (castW (arg12.view.read (Elt F) g12)) (Rect.unit ![0, 1024] S1024x1024.size inb_S1024x4096_S1024x1024_0_1024) := by
  unfold runA.sl.v305
  rw [View.readCov_eq_canon']
  funext j
  exact canon_of_piecesOf _ _ (HS1_4_pieces c arg8 arg12 arg13 arg19 g8 g12 g13 g19) _ (cov2 _ 0 512 1024 rfl _ _ _ _ _ (.head _) (.tail _ (.head _)) j)

/-- A load of a weight buffer at the first point. -/
theorem v320_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v320 c arg8 arg12 arg13 arg18 arg19 g8 g12 g13 g19 = View.ld (castW (arg13.view.read (Elt F) g13)) (Rect.unit ![0, 0] S1024x1024.size inb_S4096x1024_S1024x1024_0_0) := by
  unfold runA.sl.v320
  rw [View.readCov_eq_canon']
  funext j
  exact canon_of_piecesOf _ _ (HS2_4_pieces c arg8 arg12 arg13 arg19 g8 g12 g13 g19) _ (cov2 _ 0 512 0 rfl _ _ _ _ _ (.tail _ (.tail _ (.head _))) (.tail _ (.tail _ (.tail _ (.head _)))) j)

/-- A load of a weight buffer at the first point. -/
theorem v454_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v454 c arg8 arg12 arg13 arg18 arg19 g8 g12 g13 g19 = View.ld (castW (arg13.view.read (Elt F) g13)) (Rect.unit ![3072, 0] S1024x1024.size inb_S4096x1024_S1024x1024_3072_0) := by
  unfold runA.sl.v454
  rw [View.readCov_eq_canon']
  funext j
  exact canon_of_piecesOf _ _ (HS2_8_pieces c arg8 arg12 arg13 arg19 g8 g12 g13 g19) _ (cov2 _ 3072 3584 0 rfl _ _ _ _ _ (.head _) (.tail _ (.head _)) j)

/-- A load of a weight buffer at the first point. -/
theorem v448_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v448 c arg8 arg12 arg13 arg17 arg19 g8 g12 g13 g19 = View.ld (castW (arg12.view.read (Elt F) g12)) (Rect.unit ![0, 3072] S1024x1024.size inb_S1024x4096_S1024x1024_0_3072) := by
  unfold runA.sl.v448
  rw [View.readCov_eq_canon']
  funext j
  exact canon_of_piecesOf _ _ (HS1_8_pieces c arg8 arg12 arg13 arg19 g8 g12 g13 g19) _ (cov2 _ 0 512 3072 rfl _ _ _ _ _ (.head _) (.tail _ (.head _)) j)

/-- A load of a weight buffer at the first point. -/
theorem v401_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v401 c arg8 arg12 arg13 arg18 arg19 g8 g12 g13 g19 = View.ld (castW (arg13.view.read (Elt F) g13)) (Rect.unit ![1024, 0] S1024x1024.size inb_S4096x1024_S1024x1024_1024_0) := by
  unfold runA.sl.v401
  rw [View.readCov_eq_canon']
  funext j
  exact canon_of_piecesOf _ _ (HS2_6_pieces c arg8 arg12 arg13 arg19 g8 g12 g13 g19) _ (cov2 _ 1024 1536 0 rfl _ _ _ _ _ (.tail _ (.tail _ (.head _))) (.tail _ (.tail _ (.tail _ (.head _)))) j)

/-- A load of a weight buffer at the first point. -/
theorem v395_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v395 c arg8 arg12 arg13 arg17 arg19 g8 g12 g13 g19 = View.ld (castW (arg12.view.read (Elt F) g12)) (Rect.unit ![0, 1024] S1024x1024.size inb_S1024x4096_S1024x1024_0_1024) := by
  unfold runA.sl.v395
  rw [View.readCov_eq_canon']
  funext j
  exact canon_of_piecesOf _ _ (HS1_6_pieces c arg8 arg12 arg13 arg19 g8 g12 g13 g19) _ (cov2 _ 0 512 1024 rfl _ _ _ _ _ (.tail _ (.tail _ (.head _))) (.tail _ (.tail _ (.tail _ (.head _)))) j)

/-- A load of a weight buffer at the first point. -/
theorem v314_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v314 c arg8 arg12 arg13 arg17 arg19 g8 g12 g13 g19 = View.ld (castW (arg12.view.read (Elt F) g12)) (Rect.unit ![0, 0] S1024x1024.size inb_S1024x4096_S1024x1024_0_0) := by
  unfold runA.sl.v314
  rw [View.readCov_eq_canon']
  funext j
  exact canon_of_piecesOf _ _ (HS1_4_pieces c arg8 arg12 arg13 arg19 g8 g12 g13 g19) _ (cov2 _ 0 512 0 rfl _ _ _ _ _ (.tail _ (.tail _ (.head _))) (.tail _ (.tail _ (.tail _ (.head _)))) j)

/-- A load of a weight buffer at the first point. -/
theorem v457_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v457 c arg8 arg12 arg13 arg17 arg19 g8 g12 g13 g19 = View.ld (castW (arg12.view.read (Elt F) g12)) (Rect.unit ![0, 2048] S1024x1024.size inb_S1024x4096_S1024x1024_0_2048) := by
  unfold runA.sl.v457
  rw [View.readCov_eq_canon']
  funext j
  exact canon_of_piecesOf _ _ (HS1_8_pieces c arg8 arg12 arg13 arg19 g8 g12 g13 g19) _ (cov2 _ 0 512 2048 rfl _ _ _ _ _ (.tail _ (.tail _ (.head _))) (.tail _ (.tail _ (.tail _ (.head _)))) j)

/-- A load of a weight buffer at the first point. -/
theorem v392_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v392 c arg8 arg12 arg13 arg18 arg19 g8 g12 g13 g19 = View.ld (castW (arg13.view.read (Elt F) g13)) (Rect.unit ![2048, 0] S1024x1024.size inb_S4096x1024_S1024x1024_2048_0) := by
  unfold runA.sl.v392
  rw [View.readCov_eq_canon']
  funext j
  exact canon_of_piecesOf _ _ (HS2_6_pieces c arg8 arg12 arg13 arg19 g8 g12 g13 g19) _ (cov2 _ 2048 2560 0 rfl _ _ _ _ _ (.head _) (.tail _ (.head _)) j)

/-- A load of a weight buffer at the first point. -/
theorem v386_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg17 : Memref sig .tc .vmem S1024x4096 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v386 c arg8 arg12 arg13 arg17 arg19 g8 g12 g13 g19 = View.ld (castW (arg12.view.read (Elt F) g12)) (Rect.unit ![0, 2048] S1024x1024.size inb_S1024x4096_S1024x1024_0_2048) := by
  unfold runA.sl.v386
  rw [View.readCov_eq_canon']
  funext j
  exact canon_of_piecesOf _ _ (HS1_6_pieces c arg8 arg12 arg13 arg19 g8 g12 g13 g19) _ (cov2 _ 0 512 2048 rfl _ _ _ _ _ (.head _) (.tail _ (.head _)) j)

/-- A load of a weight buffer at the first point. -/
theorem v193_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v193 c arg8 arg12 arg13 arg18 arg19 g8 g12 g13 g19 = View.ld (castW (arg13.view.read (Elt F) g13)) (Rect.unit ![0, 0] S1024x1024.size inb_S4096x1024_S1024x1024_0_0) := by
  unfold runA.sl.v193
  rw [View.readCov_eq_canon']
  funext j
  exact canon_of_piecesOf _ _ (HS2_2_pieces c arg8 arg12 arg13 arg19 g8 g12 g13 g19) _ (cov2 _ 0 512 0 rfl _ _ _ _ _ (.head _) (.tail _ (.head _)) j)

/-- A load of a weight buffer at the first point. -/
theorem v311_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg18 : Memref sig .tc .vmem S4096x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v311 c arg8 arg12 arg13 arg18 arg19 g8 g12 g13 g19 = View.ld (castW (arg13.view.read (Elt F) g13)) (Rect.unit ![1024, 0] S1024x1024.size inb_S4096x1024_S1024x1024_1024_0) := by
  unfold runA.sl.v311
  rw [View.readCov_eq_canon']
  funext j
  exact canon_of_piecesOf _ _ (HS2_4_pieces c arg8 arg12 arg13 arg19 g8 g12 g13 g19) _ (cov2 _ 1024 1536 0 rfl _ _ _ _ _ (.head _) (.tail _ (.head _)) j)

/-- A load of a weight buffer at the first point. -/
theorem v67_eq (c : Dev nD) (arg8 : Memref sig .tc .hbm S1024x1024 .f32) (arg12 : Memref sig .tc .hbm S1024x4096 .f32) (arg13 : Memref sig .tc .hbm S4096x1024 .f32) (arg19 : Memref sig .tc .vmem S4x512x1024 .f32) (arg16 : Memref sig .tc .vmem S1024x1024 .bf16) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    runA.sl.v67 c arg8 arg12 arg13 arg16 arg19 g8 g12 g13 g19 = View.ld (castW (arg8.view.read (Elt F) g8)) (Rect.unit ![512, 0] S512x1024.size inb_S1024x1024_S512x1024_512_0) := by
  unfold runA.sl.v67
  rw [View.readCov_eq_canon']
  funext j
  exact canon_of_piecesOf _ _ (HS0_2_pieces c arg8 arg12 arg13 arg19 g8 g12 g13 g19) _ (cov1 _ 512 0 _ _ _ (.head _) j)

set_option maxHeartbeats 1000000 in
/-- The stores into the output's block at the first point are the tile's. -/
theorem runA_out (c : Dev nD) (i : grid0.Coords) (hc1 : k0_cond1 i = 1#1) (hc2 : ¬ k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ))) :
    (runA c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 g8 g12 g13 g19).1
      = tileL x0 x1 x2 x6 x7 x8 x9 (castW (arg8.view.read (Elt F) g8)) (castW (arg12.view.read (Elt F) g12)) (castW (arg13.view.read (Elt F) g13)) := by
  simp only [runA, runA.sl.r, runA.sl.r_1, runA.sl.r_2, runA.sl.r_3, runA.sl.r_4, runA.sl.r_6, runA.sl.r_7, runA.sl.r_8, runA.sl.r_9, runA.sl.r_10, runA.sl.r_12, runA.sl.r_13, runA.sl.r_14, runA.sl.r_15, runA.sl.r_16, runA.sl.r_17, runA.sl.r_18, runA.sl.r_19, load_unread, v64_eq, v463_eq, v187_eq, v305_eq, v320_eq, v454_eq, v448_eq, v401_eq, v395_eq, v314_eq, v457_eq, v392_eq, v386_eq, v193_eq, v311_eq, v67_eq]
  rfl

/-- What the first point leaves in a weight buffer: its matrix at the products' width. -/
theorem runA_w0 (c : Dev nD) (i : grid0.Coords) (hc1 : k0_cond1 i = 1#1) (hc2 : ¬ k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ)))
    (f : Buf (Elt F) (arg16.view.loc (c : Thread nD τ))) :
    arg16.view.read (Elt F) (arg16.view.writes (Elt F) f (runA c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 g8 g12 g13 g19).2.1) = castW (arg8.view.read (Elt F) g8) := by
  funext y
  have hc : ∃ p ∈ runA.sl.HS0_2 c arg8 arg12 arg13 arg19 g8 g12 g13 g19, y ∈ p.1.set := View.cover_of_tiledL (runA.sl.HS0_2 c arg8 arg12 arg13 arg19 g8 g12 g13 g19) S512x1024.size (by sl_kernel_rfl) y
  exact (View.read_writes_apply_eq_canon _ _ y _ hc).trans (canon_of_piecesOf _ _ (HS0_2_pieces c arg8 arg12 arg13 arg19 g8 g12 g13 g19) y hc)

/-- What the first point leaves in a weight buffer: its matrix at the products' width. -/
theorem runA_w1 (c : Dev nD) (i : grid0.Coords) (hc1 : k0_cond1 i = 1#1) (hc2 : ¬ k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ)))
    (f : Buf (Elt F) (arg17.view.loc (c : Thread nD τ))) :
    arg17.view.read (Elt F) (arg17.view.writes (Elt F) f (runA c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 g8 g12 g13 g19).2.2.1) = castW (arg12.view.read (Elt F) g12) := by
  funext y
  have hc : ∃ p ∈ runA.sl.HS1_8 c arg8 arg12 arg13 arg19 g8 g12 g13 g19, y ∈ p.1.set := View.cover_of_tiledL (runA.sl.HS1_8 c arg8 arg12 arg13 arg19 g8 g12 g13 g19) S512x1024.size (by sl_kernel_rfl) y
  exact (View.read_writes_apply_eq_canon _ _ y _ hc).trans (canon_of_piecesOf _ _ (HS1_8_pieces c arg8 arg12 arg13 arg19 g8 g12 g13 g19) y hc)

/-- What the first point leaves in a weight buffer: its matrix at the products' width. -/
theorem runA_w2 (c : Dev nD) (i : grid0.Coords) (hc1 : k0_cond1 i = 1#1) (hc2 : ¬ k0_cond2 i = 1#1) (hc3 : ¬ k0_cond3 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x6x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S1024x4096 .f32) (harg12 : arg12.IsWhole) (arg13 : Memref sig .tc .hbm S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1024x1024 .bf16) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S4x512x1024 .f32) (harg19 : arg19.IsWhole)
    (x0 : Vec F S512x1024 .f32) (x1 : Vec F S512x512 .bf16) (x2 : Vec F S512x512 .bf16) (x3 : Vec F S512x1024 .f32) (x4 : Vec F S512x512 .bf16) (x5 : Vec F S512x512 .bf16) (x6 : Vec F S1x6x1024 .f32) (x7 : Vec F S1x1024 .f32) (x8 : Vec F S1x1024 .f32) (x9 : Vec F S1x1024 .f32) (g8 : Buf (Elt F) (arg8.view.loc (c : Thread nD τ))) (g12 : Buf (Elt F) (arg12.view.loc (c : Thread nD τ))) (g13 : Buf (Elt F) (arg13.view.loc (c : Thread nD τ))) (g19 : Buf (Elt F) (arg19.view.loc (c : Thread nD τ)))
    (f : Buf (Elt F) (arg18.view.loc (c : Thread nD τ))) :
    arg18.view.read (Elt F) (arg18.view.writes (Elt F) f (runA c i hc1 hc2 hc3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 g8 g12 g13 g19).2.2.2.1) = castW (arg13.view.read (Elt F) g13) := by
  funext y
  have hc : ∃ p ∈ runA.sl.HS2_8 c arg8 arg12 arg13 arg19 g8 g12 g13 g19, y ∈ p.1.set := View.cover_of_tiledL (runA.sl.HS2_8 c arg8 arg12 arg13 arg19 g8 g12 g13 g19) S512x1024.size (by sl_kernel_rfl) y
  exact (View.read_writes_apply_eq_canon _ _ y _ hc).trans (canon_of_piecesOf _ _ (HS2_8_pieces c arg8 arg12 arg13 arg19 g8 g12 g13 g19) y hc)

end Cert.OutKernelIdeal.Body

end
-- ==== Proof.OutI.Data.lean ====
module

public import proofs.«01_k».proof.Proof.OutI.RunB
public import proofs.«01_k».proof.Proof.OutI.RunC
public import proofs.«01_k».proof.Proof.OutI.Stage
public import Idealize.ShloMosaic.Lib.Pipeline.TableIdle

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which case of the body a point takes -/

theorem cond1_at : ∀ t : Fin cfg0.N, k0_cond1 (grid0.coords t) = 1#1 ↔ t.val = 0 := by decide +kernel
theorem cond2_at : ∀ t : Fin cfg0.N, k0_cond2 (grid0.coords t) = 1#1 ↔ (0 < t.val ∧ t.val < 16) := by decide +kernel
theorem cond3_at : ∀ t : Fin cfg0.N, k0_cond3 (grid0.coords t) = 1#1 ↔ 16 ≤ t.val := by decide +kernel
theorem idle10_at : ∀ t : Fin cfg0.N, cfg0.idle 10 (cfg0.grid.coords t) = decide (16 ≤ t.val) :=
  (by decide +kernel : ∀ t : Fin grid0.N, (!(k0_cond1 (grid0.coords t) == 1#1) && !(k0_cond2 (grid0.coords t) == 1#1)) = decide (16 ≤ t.val))
theorem idle11_at : ∀ t : Fin cfg0.N, cfg0.idle 11 (cfg0.grid.coords t) = decide (t.val < 16) :=
  (by decide +kernel : ∀ t : Fin grid0.N, (!(k0_cond3 (grid0.coords t) == 1#1)) = decide (t.val < 16))
theorem flush10_at : ∀ t : Fin cfg0.N, (cfg0.win 10).flush t = (decide (t.val < 15) || decide (t.val = 31)) :=
  (by decide +kernel : ∀ t : Fin grid0.N, win0_10.flush t = (decide (t.val < 15) || decide (t.val = 31)))
theorem flush11_at : ∀ t : Fin cfg0.N, (cfg0.win 11).flush t = decide (16 ≤ t.val) :=
  (by decide +kernel : ∀ t : Fin grid0.N, win0_11.flush t = decide (16 ≤ t.val))
theorem fresh10_at (n : ℕ) (h : n ≤ cfg0.N) : cfg0.fresh 10 n = (decide (n < 16) || decide (32 ≤ n)) :=
  cfg0.fresh_tab 10 (fun n => decide (n < 16) || decide (32 ≤ n)) rfl
    (fun t => by
      rw [flush10_at, idle10_at]
      have ht : t.val < 32 := N_0 ▸ t.isLt
      rcases Nat.lt_or_ge t.val 15 with h | h
      · simp [h]; omega
      · by_cases h2 : t.val = 31
        · simp [h2]
        · have e1 : ¬ t.val + 1 < 16 := by omega
          have e2 : ¬ 32 ≤ t.val + 1 := by omega
          have e3 : ¬ t.val < 15 := by omega
          by_cases h3 : 16 ≤ t.val
          · have e4 : ¬ t.val < 16 := by omega
            have e5 : ¬ 32 ≤ t.val := by omega
            simp [e1, e2, e3, e4, e5, h2]
          · simp [e1, e2, e3, h3, h2]) n h

/-! ## What the windows hold -/

/-- A weight matrix, cast, as the scratch buffers hold it from the first point on. -/
def w0 (c : Dev nD) : Vec F S1024x1024 .bf16 := castW ((Memref.whole main_v6).view.read (Elt F) (V m c main_v6))
def w1 (c : Dev nD) : Vec F S1024x4096 .bf16 := castW ((Memref.whole main_v7).view.read (Elt F) (V m c main_v7))
def w2 (c : Dev nD) : Vec F S4096x1024 .bf16 := castW ((Memref.whole main_v8).view.read (Elt F) (V m c main_v8))

/-- The tile of point `t` of the prompt's rows. -/
def tileP (c : Dev nD) (t : Fin cfg0.N) : Vec F S512x1024 .f32 :=
  View.canon (tileL (iblk m c 0 t) (iblk m c 1 t) (iblk m c 2 t) (iblk m c 6 t) (iblk m c 7 t) (iblk m c 8 t) (iblk m c 9 t) (w0 m c) (w1 m c) (w2 m c))
/-- The tile of point `t` of the sample's rows. -/
def tileS (c : Dev nD) (t : Fin cfg0.N) : Vec F S512x1024 .f32 :=
  View.canon (tileL (iblk m c 3 t) (iblk m c 4 t) (iblk m c 5 t) (iblk m c 6 t) (iblk m c 7 t) (iblk m c 8 t) (iblk m c 9 t) (w0 m c) (w1 m c) (w2 m c))

/-- The tile's two stores fill the block, whatever it held. -/
theorem read_tile {sp : Space} (v : View sig .tc sp S512x1024 .f32) (f : v.ty.Contents (Elt F)) (X A B M N1 N2 N3 W0 W1 W2) :
    v.read (Elt F) (v.writes (Elt F) f (tileL X A B M N1 N2 N3 W0 W1 W2)) = View.canon (tileL X A B M N1 N2 N3 W0 W1 W2) := by
  funext y
  exact View.read_writes_apply_eq_canon _ _ y _ (View.cover_of_tiledL (tileL X A B M N1 N2 N3 W0 W1 W2) S256x1024.size (by sl_kernel_rfl) y)

/-- The last prompt point at or before `t`. -/
def lastP (t : Fin cfg0.N) : Fin cfg0.N := ⟨min t.val 15, lt_of_le_of_lt (Nat.min_le_left _ _) t.isLt⟩

/-! ## The proof data -/

/-- The three weight buffers of HBM. -/
abbrev hb : Finset (Ref sig .tc) := {main_v6, main_v7, main_v8}

/-- The weight buffers as the first point leaves them, the stage at anything, and what the launch gives besides. -/
def later (c : Dev nD) : sProp 𝕄 :=
  iprop((owns (c : Thread nD τ) (Memref.whole cc0_scratch0) fullShare (w0 m c) ∗ owns (c : Thread nD τ) (Memref.whole cc0_scratch1) fullShare (w1 m c)
      ∗ owns (c : Thread nD τ) (Memref.whole cc0_scratch2) fullShare (w2 m c) ∗ ∃ f : Buf (Elt F) ((c : Thread nD τ).loc cc0_scratch3), ((c : Thread nD τ).loc cc0_scratch3) ↦{fullShare} f)
    ∗ (∃ r, prngReg c r)
    ∗ Pipeline.ownSems0 (Ix := Unit) (Name := ℕ) (U := Pipeline.UD sig nD τ) (Lvl := ℕ) (Val := Elt F) (τ := τ) osem c
    ∗ bigSep hb fun b => ((c : Thread nD τ).loc b) ↦{fullShare} V m c b)

/-- Windows 0 to 9 as fetched; the prompt's window at its tile, kept from the last prompt point on; the sample's window
    at its tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t | ⟨8, _⟩ => iblk m c 8 t | ⟨9, _⟩ => iblk m c 9 t
    | ⟨10, _⟩ => tileP m c (lastP t) | ⟨11, _⟩ => tileS m c t
    | ⟨_ + 12, h⟩ => absurd h (Nat.not_lt.2 (Nat.le_add_left _ _))
  Φ t := if t.val = 0 then Pipeline.ΦD osem spec0 hb (V m) c else later m c
  q _ := fullShare
  owed _ := 0

theorem A_eq (c : Dev nD) (w : Fin cfg0.W) : (dats m 0 c).A w = V m c (Pipeline.arrRef spec0 w) := by dsimp only [dats]

theorem after_10 (c : Dev nD) (t : Fin cfg0.N) : (dats m 0 c).after 10 t = tileP m c (lastP t) := by dsimp only [dats]
theorem after_11 (c : Dev nD) (t : Fin cfg0.N) : (dats m 0 c).after 11 t = tileS m c t := by dsimp only [dats]

theorem Φ_zero (c : Dev nD) (t : Fin (cfg0.N + 1)) (h : t.val = 0) : (dats m 0 c).Φ t = Pipeline.ΦD osem spec0 hb (V m) c := if_pos h
theorem Φ_pos (c : Dev nD) (t : Fin (cfg0.N + 1)) (h : t.val ≠ 0) : (dats m 0 c).Φ t = later m c := if_neg h

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- A sample point finds the prompt's window as the last prompt point left it. -/
theorem before_10 (c : Dev nD) (t : Fin cfg0.N) (ht : 16 ≤ t.val) (d) : (dats m 0 c).before 10 t d = (dats m 0 c).after 10 t := by
  have hN : t.val < 32 := N_0 ▸ t.isLt
  have hc : ∀ (t : Fin cfg0.N) (h0 : t.val ≠ 0), cfg0.idle 10 (cfg0.grid.coords t) = true → cfg0.fresh 10 t.val = false →
      (dats m 0 c).after 10 t = (dats m 0 c).after 10 ⟨t.val - 1, by omega⟩ := by
    intro t h0 hi _
    rw [idle10_at, decide_eq_true_eq] at hi
    rw [after_10, after_10, show lastP t = lastP ⟨t.val - 1, by omega⟩ from Fin.ext (show min t.val 15 = min (t.val - 1) 15 by omega)]
  have hf : cfg0.fresh 10 t.val = false := by
    rw [fresh10_at _ (Nat.le_of_lt t.isLt)]
    simp; omega
  rw [(dats m 0 c).before_out_traj 10 rfl (fun _ _ => rfl) hc t.val t rfl d, if_neg (by rw [hf]; exact Bool.false_ne_true)]
  exact (hc t (by omega) (by rw [idle10_at]; exact decide_eq_true ht) hf).symm

end Cert.OutKernelIdeal.Body

end
-- ==== Proof.OutI.PointA.lean ====
module

public import proofs.«01_k».proof.Proof.OutI.Data

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

omit [FloatOps F] in
/-- The weight buffers of HBM, one by one. -/
theorem bigSep_hb (Φ : Ref sig .tc → sProp 𝕄) : bigSep hb Φ = iprop(Φ main_v6 ∗ Φ main_v7 ∗ Φ main_v8) :=
  bigSep_eq_bigSepL_of_eq [main_v6, main_v7, main_v8] (by decide) (by decide) Φ

omit [FloatOps F] in
/-- The semaphores of the kernel's own copies, one by one. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0 ∗ semVal ((c : Thread nD τ), osem 3) 0) :=
  Pipeline.ownSems0_eq_of_list c osem [0, 1, 2, 3] (by decide) (by decide)

omit [FloatOps F] in
/-- A whole buffer at some contents is owned at them. -/
theorem own_whole (c : Dev nD) (b : Ref sig .tc) (f : Buf (Elt F) ((c : Thread nD τ).loc b)) :
    iprop(((c : Thread nD τ).loc b) ↦{fullShare} f) ⊢ (owns (c : Thread nD τ) (Memref.whole b) fullShare f : sProp 𝕄) := by
  rw [owns_whole_eq]
  iintro H
  iexists f
  isplitr; · ipureintro; rfl
  iexact H

set_option maxHeartbeats 4000000 in
theorem body_first (c : Dev nD) (t : Fin cfg0.N) (ht : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have hN : t.val < 32 := N_0 ▸ t.isLt
  rw [bigSep_W0, bigSep_W0]
  simp only [show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.idle 7 (cfg0.grid.coords t) = false from rfl, show cfg0.idle 8 (cfg0.grid.coords t) = false from rfl, show cfg0.idle 9 (cfg0.grid.coords t) = false from rfl, (idle10_at t).trans (decide_eq_false (by omega)), (idle11_at t).trans (decide_eq_true (by omega)), (flush11_at t).trans (decide_eq_false (by omega)), show idle0 10 (grid0.coords t) = _ from (idle10_at t).trans (decide_eq_false (by omega)), show idle0 11 (grid0.coords t) = _ from (idle11_at t).trans (decide_eq_true (by omega)), show (win0 11).flush t = _ from (flush11_at t).trans (decide_eq_false (by omega))]
  simp only [before_0 m (dats m 0 c) (A_eq m c 0) (fun _ => by dsimp only [dats]), before_1 m (dats m 0 c) (A_eq m c 1) (fun _ => by dsimp only [dats]), before_2 m (dats m 0 c) (A_eq m c 2) (fun _ => by dsimp only [dats]), before_3 m (dats m 0 c) (A_eq m c 3) (fun _ => by dsimp only [dats]), before_4 m (dats m 0 c) (A_eq m c 4) (fun _ => by dsimp only [dats]), before_5 m (dats m 0 c) (A_eq m c 5) (fun _ => by dsimp only [dats]), before_6 m (dats m 0 c) (A_eq m c 6) (fun _ => by dsimp only [dats]), before_7 m (dats m 0 c) (A_eq m c 7) (fun _ => by dsimp only [dats]), before_8 m (dats m 0 c) (A_eq m c 8) (fun _ => by dsimp only [dats]), before_9 m (dats m 0 c) (A_eq m c 9) (fun _ => by dsimp only [dats])]
  simp only [show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats]]
  rw [Φ_zero m c t.castSucc (by simp only [Fin.val_castSucc]; omega), Φ_pos m c t.succ (by simp only [Fin.val_succ]; omega)]
  unfold Dat.owesAt Pipeline.owesWithin later
  rw [show (dats m 0 c).owed t.castSucc = 0 from rfl, show (dats m 0 c).owed t.succ = 0 from rfl]
  rw [Pipeline.ΦD_eq, scopedRest0_eq, ownSems_eq, bigSep_hb]
  iintro ⟨⟨⟨⟨%g0, HS0⟩, ⟨%g1, HS1⟩, ⟨%g2, HS2⟩, ⟨%g3, HS3⟩⟩, HP, ⟨HD0, HD1, HD2, HD3⟩, HG6, HG7, HG8⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply ((runA c (grid0.coords t) ((cond1_at t).mpr ht) (mt (cond2_at t).mp (by omega)) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7) (V m c main_v8) g3).2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HG6]; · iexact HG6
  isplitl [HG7]; · iexact HG7
  isplitl [HG8]; · iexact HG8
  isplitl [HS0]; · iexists _; iapply (own_whole c cc0_scratch0 g0); iexact HS0
  isplitl [HS1]; · iexists _; iapply (own_whole c cc0_scratch1 g1); iexact HS1
  isplitl [HS2]; · iexists _; iapply (own_whole c cc0_scratch2 g2); iexact HS2
  isplitl [HS3]; · iexact HS3
  isplitl [HD0]; · iexact HD0
  isplitl [HD1]; · iexact HD1
  isplitl [HD2]; · iexact HD2
  isplitl [HD3]; · iexact HD3
  isplitl [HO]; · iexact HO
  iintro ⟨H0, H1, H2, H3, H4, H5, H6, H7, H8, H9, ⟨%f10, H10⟩, HG6, HG7, HG8, ⟨%f0, HS0⟩, ⟨%f1, HS1⟩, ⟨%f2, HS2⟩, HS3, HD0, HD1, HD2, HD3, ⟨%W', HO⟩⟩
  isplitl [HS0 HS1 HS2 HS3 HP HD0 HD1 HD2 HD3 HG6 HG7 HG8]
  · isplitl [HS0 HS1 HS2 HS3]
    · isplitl [HS0]
      · unfold owns; iexists _; isplitr; swap; (· iexact HS0); ipureintro
        exact runA_w0 c (grid0.coords t) ((cond1_at t).mpr ht) (mt (cond2_at t).mp (by omega)) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7) (V m c main_v8) g3 f0
      isplitl [HS1]
      · unfold owns; iexists _; isplitr; swap; (· iexact HS1); ipureintro
        exact runA_w1 c (grid0.coords t) ((cond1_at t).mpr ht) (mt (cond2_at t).mp (by omega)) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7) (V m c main_v8) g3 f1
      isplitl [HS2]
      · unfold owns; iexists _; isplitr; swap; (· iexact HS2); ipureintro
        exact runA_w2 c (grid0.coords t) ((cond1_at t).mpr ht) (mt (cond2_at t).mp (by omega)) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7) (V m c main_v8) g3 f2
      iexact HS3
    isplitl [HP]; · iexact HP
    isplitl [HD0 HD1 HD2 HD3]
    · isplitl [HD0]; · iexact HD0
      isplitl [HD1]; · iexact HD1
      isplitl [HD2]; · iexact HD2
      iexact HD3
    isplitl [HG6]; · iexact HG6
    isplitl [HG7]; · iexact HG7
    iexact HG8
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; (· iexact H10); ipureintro
    rw [runA_out c (grid0.coords t) ((cond1_at t).mpr ht) (mt (cond2_at t).mp (by omega)) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7) (V m c main_v8) g3, read_tile, after_10, show lastP t = t from Fin.ext (show min t.val 15 = t.val by omega)]; rfl
  iexact H11

end Cert.OutKernelIdeal.Body

end
-- ==== Proof.OutI.PointB.lean ====
module

public import proofs.«01_k».proof.Proof.OutI.Data

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem body_prompt (c : Dev nD) (t : Fin cfg0.N) (h0 : 0 < t.val) (ht : t.val < 16) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have hN : t.val < 32 := N_0 ▸ t.isLt
  rw [bigSep_W0, bigSep_W0]
  simp only [show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.idle 7 (cfg0.grid.coords t) = false from rfl, show cfg0.idle 8 (cfg0.grid.coords t) = false from rfl, show cfg0.idle 9 (cfg0.grid.coords t) = false from rfl, (idle10_at t).trans (decide_eq_false (by omega)), (idle11_at t).trans (decide_eq_true (by omega)), (flush11_at t).trans (decide_eq_false (by omega)), show idle0 10 (grid0.coords t) = _ from (idle10_at t).trans (decide_eq_false (by omega)), show idle0 11 (grid0.coords t) = _ from (idle11_at t).trans (decide_eq_true (by omega)), show (win0 11).flush t = _ from (flush11_at t).trans (decide_eq_false (by omega))]
  simp only [before_0 m (dats m 0 c) (A_eq m c 0) (fun _ => by dsimp only [dats]), before_1 m (dats m 0 c) (A_eq m c 1) (fun _ => by dsimp only [dats]), before_2 m (dats m 0 c) (A_eq m c 2) (fun _ => by dsimp only [dats]), before_3 m (dats m 0 c) (A_eq m c 3) (fun _ => by dsimp only [dats]), before_4 m (dats m 0 c) (A_eq m c 4) (fun _ => by dsimp only [dats]), before_5 m (dats m 0 c) (A_eq m c 5) (fun _ => by dsimp only [dats]), before_6 m (dats m 0 c) (A_eq m c 6) (fun _ => by dsimp only [dats]), before_7 m (dats m 0 c) (A_eq m c 7) (fun _ => by dsimp only [dats]), before_8 m (dats m 0 c) (A_eq m c 8) (fun _ => by dsimp only [dats]), before_9 m (dats m 0 c) (A_eq m c 9) (fun _ => by dsimp only [dats])]
  simp only [show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats]]
  rw [Φ_pos m c t.castSucc (by simp only [Fin.val_castSucc]; omega), Φ_pos m c t.succ (by simp only [Fin.val_succ]; omega)]
  unfold Dat.owesAt Pipeline.owesWithin later
  rw [show (dats m 0 c).owed t.castSucc = 0 from rfl, show (dats m 0 c).owed t.succ = 0 from rfl]
  iintro ⟨⟨⟨HS0, HS1, HS2, HS3⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply ((runB c (grid0.coords t) (mt (cond1_at t).mp (by omega)) ((cond2_at t).mpr ⟨h0, ht⟩) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (w0 m c) (w1 m c) (w2 m c)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, H8, H9, ⟨%f10, H10⟩, HS0, HS1, HS2⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; (· iexact H10); ipureintro
    rw [runB_eq c (grid0.coords t) (mt (cond1_at t).mp (by omega)) ((cond2_at t).mpr ⟨h0, ht⟩) (mt (cond3_at t).mp (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (w0 m c) (w1 m c) (w2 m c), read_tile, after_10, show lastP t = t from Fin.ext (show min t.val 15 = t.val by omega)]; rfl
  iexact H11

end Cert.OutKernelIdeal.Body

end
-- ==== Proof.OutI.PointC.lean ====
module

public import proofs.«01_k».proof.Proof.OutI.Data

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem body_sample (c : Dev nD) (t : Fin cfg0.N) (ht : 16 ≤ t.val) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have hN : t.val < 32 := N_0 ▸ t.isLt
  rw [bigSep_W0, bigSep_W0]
  simp only [show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.idle 7 (cfg0.grid.coords t) = false from rfl, show cfg0.idle 8 (cfg0.grid.coords t) = false from rfl, show cfg0.idle 9 (cfg0.grid.coords t) = false from rfl, (idle10_at t).trans (decide_eq_true (by omega)), (idle11_at t).trans (decide_eq_false (by omega)), (flush11_at t).trans (decide_eq_true (by omega)), show idle0 10 (grid0.coords t) = _ from (idle10_at t).trans (decide_eq_true (by omega)), show idle0 11 (grid0.coords t) = _ from (idle11_at t).trans (decide_eq_false (by omega)), show (win0 11).flush t = _ from (flush11_at t).trans (decide_eq_true (by omega))]
  simp only [before_0 m (dats m 0 c) (A_eq m c 0) (fun _ => by dsimp only [dats]), before_1 m (dats m 0 c) (A_eq m c 1) (fun _ => by dsimp only [dats]), before_2 m (dats m 0 c) (A_eq m c 2) (fun _ => by dsimp only [dats]), before_3 m (dats m 0 c) (A_eq m c 3) (fun _ => by dsimp only [dats]), before_4 m (dats m 0 c) (A_eq m c 4) (fun _ => by dsimp only [dats]), before_5 m (dats m 0 c) (A_eq m c 5) (fun _ => by dsimp only [dats]), before_6 m (dats m 0 c) (A_eq m c 6) (fun _ => by dsimp only [dats]), before_7 m (dats m 0 c) (A_eq m c 7) (fun _ => by dsimp only [dats]), before_8 m (dats m 0 c) (A_eq m c 8) (fun _ => by dsimp only [dats]), before_9 m (dats m 0 c) (A_eq m c 9) (fun _ => by dsimp only [dats])]
  simp only [show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats]]
  rw [Φ_pos m c t.castSucc (by simp only [Fin.val_castSucc]; omega), Φ_pos m c t.succ (by simp only [Fin.val_succ]; omega)]
  unfold Dat.owesAt Pipeline.owesWithin later
  rw [show (dats m 0 c).owed t.castSucc = 0 from rfl, show (dats m 0 c).owed t.succ = 0 from rfl]
  iintro ⟨⟨⟨HS0, HS1, HS2, HS3⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩⟩
  iapply ((runC c (grid0.coords t) (mt (cond1_at t).mp (by omega)) (mt (cond2_at t).mp (by omega)) ((cond3_at t).mpr ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (w0 m c) (w1 m c) (w2 m c)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [HS0]; · iexact HS0
  isplitl [HS1]; · iexact HS1
  isplitl [HS2]; · iexact HS2
  iintro ⟨H0, H1, H2, H3, H4, H5, H6, H7, H8, H9, ⟨%f10, H11⟩, HS0, HS1, HS2⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · by_cases h31 : t.val = 31
    · simp only [(flush10_at t).trans (show (decide (t.val < 15) || decide (t.val = 31)) = true by simp [h31])]
      icases H10 with ⟨%d10, H10⟩
      rw [before_10 m c t ht]
      iexact H10
    · simp only [(flush10_at t).trans (show (decide (t.val < 15) || decide (t.val = 31)) = false by simp [h31]; omega)]
      iexact H10
  unfold owns; iexists _; isplitr; swap; (· iexact H11); ipureintro
  rw [runC_eq c (grid0.coords t) (mt (cond1_at t).mp (by omega)) (mt (cond2_at t).mp (by omega)) ((cond3_at t).mpr ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_v7) (Memref.isWhole_whole _) (Memref.whole main_v8) (Memref.isWhole_whole _) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (w0 m c) (w1 m c) (w2 m c), read_tile, after_11]; rfl

end Cert.OutKernelIdeal.Body

end
-- ==== Proof.OutI.Launch.lean ====
module

public import proofs.«01_k».proof.Proof.OutI.PointA
public import proofs.«01_k».proof.Proof.OutI.PointB
public import proofs.«01_k».proof.Proof.OutI.PointC

@[expose] public section

set_option maxRecDepth 16384

noncomputable section

namespace Cert.OutKernelIdeal.Body

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem body_obligation (c : Dev nD) : BodyObligation (dats m 0 c) (defs₀ (F := F)) Variants.none () Set.univ := fun t => by
  rcases Nat.eq_zero_or_pos t.val with h | h
  · exact body_first m c t h
  · rcases Nat.lt_or_ge t.val 16 with h' | h'
    · exact body_prompt m c t h h'
    · exact body_sample m c t h'

theorem ownSemFacts : Pipeline.OwnSemFacts spec0 osem := by decide

theorem later_out (c : Dev nD) : later m c ⊢ Pipeline.ΦD osem spec0 hb (V m) c := by
  rw [Pipeline.ΦD_eq, scopedRest0_eq]
  unfold later
  rw [owns_whole_eq, owns_whole_eq, owns_whole_eq]
  iintro ⟨⟨⟨%f0, -, H0⟩, ⟨%f1, -, H1⟩, ⟨%f2, -, H2⟩, H3⟩, HR⟩
  isplitl [H0 H1 H2 H3]
  · isplitl [H0]; · iexists f0; iexact H0
    isplitl [H1]; · iexists f1; iexact H1
    isplitl [H2]; · iexists f2; iexact H2
    iexact H3
  iexact HR

set_option maxHeartbeats 800000 in
/-- @main up to the region: the host operations, then the region. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the launch theorem's implicit arguments are found only when plain definitions in a type may be unfolded
set_option backward.isDefEq.respectTransparency.types false in
set_option maxHeartbeats 800000 in
/-- The run: every window's array as the proof data leave it, every other array as the region found it. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) 0 launch0 osem defs₀ Variants.none ownSemFacts hb (by decide) m ρ main
    (fun c => (body_obligation m c).loose) (fun c => (dats m 0 c).share_full fun _ => rfl) (fun _ _ => rfl) (V m) (hmain m) (A_eq m)
    (fun c => by rw [Φ_zero m c 0 rfl]) (fun c => by rw [Φ_pos m c _ (by decide)]; exact later_out m c)

/-- After a run the arguments are as they were. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩

/-- The arguments end as they were, and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨kept m r h.1, h.2⟩) (run m ρ)

end Cert.OutKernelIdeal.Body

end
-- ==== Proof.OutRef.lean ====
module
public import proofs.«01_k».proof.Proof.Gen.OutReferenceIdeal.Read
public import proofs.«01_k».proof.Proof.Rest
public import Idealize.ShloMosaic.Lib.Pipeline.ValueKit

/-! The two results of the reference of the rest of the layer, read at a row and a column. -/

@[expose] public section
set_option maxRecDepth 16384
noncomputable section
namespace Cert.OutReferenceIdeal.At
open Cert.OutReferenceIdeal Cert.OutReferenceIdeal.Gen Idealize.ShloMosaic Idealize.ShloMosaic.TcCoe Idealize.SL.Sem
open Cert.OutReferenceIdeal.Read Cert.Rest

variable (x0 : Vec Ideal S32x256x1024 .f32)
variable (x1 : Vec Ideal S8192x512 .bf16)
variable (x2 : Vec Ideal S8192x512 .bf16)
variable (x3 : Vec Ideal S8x1024x1024 .f32)
variable (x4 : Vec Ideal S8192x512 .bf16)
variable (x5 : Vec Ideal S8192x512 .bf16)
variable (x6 : Vec Ideal S9x6x1024 .f32)
variable (x7 : Vec Ideal S1x1024 .f32)
variable (x8 : Vec Ideal S1x1024 .f32)
variable (x9 : Vec Ideal S1x1024 .f32)
variable (x10 : Vec Ideal S1x1024x1024 .f32)
variable (x11 : Vec Ideal S1x1024x4096 .f32)
variable (x12 : Vec Ideal S1x4096x1024 .f32)

theorem headsP (R : Fin 8192) (k : Fin 1024) : val_main_v13 (F := Ideal) x1 x2 (ix2 R k) = beside (fun k => x1 (ix2 R k)) (fun k => x2 (ix2 R k)) k := by
  pointwise [val_main_v13]
  unfold beside
  split <;> rfl

theorem at17 (b : Fin 32) (l : Fin 256) (j : Fin 1024) (R : Fin 8192) (hR : (R : ℕ) = 256 * b + l) : val_main_v17 (F := Ideal) x1 x2 x10 (ix3 b l j)
    = proj (beside (fun k => x1 (ix2 R k)) (fun k => x2 (ix2 R k))) (fun k j => x10 (ix3 0 k j)) j := by
  rw [← funext (headsP x1 x2 R)]
  unfold val_main_v17 val_main_v16 val_main_v15 val_main_v14
  generalize val_main_v13 (F := Ideal) x1 x2 = y
  pointwise
  unfold proj
  refine Finset.sum_congr rfl fun k _ => congrArg (fun z => y z * x10 (ix3 0 k j)) ?_
  blk_ext

theorem at34 (b : Fin 32) (l : Fin 256) (j : Fin 1024) : val_main_v34 (F := Ideal) x0 x1 x2 x6 x7 x10 (ix3 b l j)
    = res (fun k => x0 (ix3 b l k)) (fun k => x6 (ix3 0 2 k)) (fun k => x7 (ix2 0 k)) (fun k => val_main_v17 (F := Ideal) x1 x2 x10 (ix3 b l k)) j := by
  unfold val_main_v34 val_main_v33 val_main_v32 val_main_v31 val_main_v30 val_main_v29 val_main_v28 val_main_v27 val_main_v26 val_main_v25 val_main_v24 val_main_cst_1 val_main_v23 val_main_v22 val_main_cst_0 val_main_v21 val_main_v20 val_main_cst val_main_v19 val_main_v18
  generalize val_main_v17 (F := Ideal) x1 x2 x10 = y17
  pointwise [val_main_v12, val_main_v11, val_main_v10, val_main_v9, val_main_v8, val_main_v7, val_main_v6, val_main_v5, val_main_v4, val_main_v3, val_main_v2, val_main_v1, val_main_v0]
  unfold res Rest.norm
  rfl

theorem at54 (b : Fin 32) (l : Fin 256) (j : Fin 1024) : val_main_v54 (F := Ideal) x0 x1 x2 x6 x7 x8 x10 (ix3 b l j)
    = pre (fun k => val_main_v34 (F := Ideal) x0 x1 x2 x6 x7 x10 (ix3 b l k)) (fun k => x8 (ix2 0 k)) (fun k => x6 (ix3 0 4 k)) (fun k => x6 (ix3 0 3 k)) j := by
  unfold val_main_v54 val_main_v53 val_main_v52 val_main_v51 val_main_v50 val_main_v49 val_main_cst_5 val_main_v48 val_main_v47 val_main_v46 val_main_v45 val_main_v44 val_main_v43 val_main_v42 val_main_v41 val_main_cst_4 val_main_v40 val_main_v39 val_main_cst_3 val_main_v38 val_main_v37 val_main_cst_2 val_main_v36 val_main_v35
  generalize val_main_v34 (F := Ideal) x0 x1 x2 x6 x7 x10 = y34
  pointwise [val_main_v12, val_main_v11, val_main_v10, val_main_v9, val_main_v8, val_main_v7, val_main_v6, val_main_v5, val_main_v4, val_main_v3, val_main_v2, val_main_v1, val_main_v0]
  unfold pre Rest.norm
  rfl

theorem at58 (b : Fin 32) (l : Fin 256) (j : Fin 4096) : val_main_v58 (F := Ideal) x0 x1 x2 x6 x7 x8 x10 x11 (ix3 b l j)
    = act (proj (fun k => val_main_v54 (F := Ideal) x0 x1 x2 x6 x7 x8 x10 (ix3 b l k)) (fun k j => x11 (ix3 0 k j))) j := by
  unfold val_main_v58 val_main_v57 val_main_call0_v0 val_main_call0_cst val_main_v56 val_main_v55
  generalize val_main_v54 (F := Ideal) x0 x1 x2 x6 x7 x8 x10 = y54
  pointwise [val_main_v12, val_main_v11, val_main_v10, val_main_v9, val_main_v8, val_main_v7, val_main_v6, val_main_v5, val_main_v4, val_main_v3, val_main_v2, val_main_v1, val_main_v0]
  unfold act proj
  rfl

theorem at60 (b : Fin 32) (l : Fin 256) (j : Fin 1024) : val_main_v60 (F := Ideal) x0 x1 x2 x6 x7 x8 x10 x11 x12 (ix3 b l j)
    = proj (fun k => val_main_v58 (F := Ideal) x0 x1 x2 x6 x7 x8 x10 x11 (ix3 b l k)) (fun k j => x12 (ix3 0 k j)) j := by
  unfold val_main_v60 val_main_v59
  generalize val_main_v58 (F := Ideal) x0 x1 x2 x6 x7 x8 x10 x11 = y58
  pointwise [val_main_v12, val_main_v11, val_main_v10, val_main_v9, val_main_v8, val_main_v7, val_main_v6, val_main_v5, val_main_v4, val_main_v3, val_main_v2, val_main_v1, val_main_v0]
  unfold proj
  rfl

theorem at77 (b : Fin 32) (l : Fin 256) (j : Fin 1024) : val_main_v77 (F := Ideal) x0 x1 x2 x6 x7 x8 x9 x10 x11 x12 (ix3 b l j)
    = res (fun k => val_main_v34 (F := Ideal) x0 x1 x2 x6 x7 x10 (ix3 b l k)) (fun k => x6 (ix3 0 5 k)) (fun k => x9 (ix2 0 k)) (fun k => val_main_v60 (F := Ideal) x0 x1 x2 x6 x7 x8 x10 x11 x12 (ix3 b l k)) j := by
  unfold val_main_v77 val_main_v76 val_main_v75 val_main_v74 val_main_v73 val_main_v72 val_main_v71 val_main_v70 val_main_v69 val_main_v68 val_main_v67 val_main_cst_8 val_main_v66 val_main_v65 val_main_cst_7 val_main_v64 val_main_v63 val_main_cst_6 val_main_v62 val_main_v61
  generalize val_main_v60 (F := Ideal) x0 x1 x2 x6 x7 x8 x10 x11 x12 = y60
  generalize val_main_v34 (F := Ideal) x0 x1 x2 x6 x7 x10 = y34
  pointwise [val_main_v12, val_main_v11, val_main_v10, val_main_v9, val_main_v8, val_main_v7, val_main_v6, val_main_v5, val_main_v4, val_main_v3, val_main_v2, val_main_v1, val_main_v0]
  unfold res Rest.norm
  rfl

/-- A result at a row and a column. -/
theorem at78 (b : Fin 32) (l : Fin 256) (j : Fin 1024) (R : Fin 8192) (hR : (R : ℕ) = 256 * b + l) : val_main_v78 (F := Ideal) x0 x1 x2 x6 x7 x8 x9 x10 x11 x12 (ix2 R j)
    = out (fun k => x0 (ix3 b l k)) (beside (fun k => x1 (ix2 R k)) (fun k => x2 (ix2 R k))) (fun k j => x10 (ix3 0 k j))
        (fun k j => x11 (ix3 0 k j)) (fun k j => x12 (ix3 0 k j)) (fun k => x6 (ix3 0 2 k)) (fun k => x6 (ix3 0 3 k)) (fun k => x6 (ix3 0 4 k)) (fun k => x6 (ix3 0 5 k))
        (fun k => x7 (ix2 0 k)) (fun k => x8 (ix2 0 k)) (fun k => x9 (ix2 0 k)) j := by
  have e : val_main_v78 (F := Ideal) x0 x1 x2 x6 x7 x8 x9 x10 x11 x12 (ix2 R j) = val_main_v77 (F := Ideal) x0 x1 x2 x6 x7 x8 x9 x10 x11 x12 (ix3 b l j) := by
    unfold val_main_v78
    generalize val_main_v77 (F := Ideal) x0 x1 x2 x6 x7 x8 x9 x10 x11 x12 = y
    pointwise
    refine congrArg y ?_
    blk_ext
  rw [e, at77]
  unfold out first
  have e34 : (fun k => val_main_v34 (F := Ideal) x0 x1 x2 x6 x7 x10 (ix3 b l k)) = _ := funext (at34 x0 x1 x2 x6 x7 x10 b l)
  have e17 : (fun k => val_main_v17 (F := Ideal) x1 x2 x10 (ix3 b l k)) = _ := funext fun j => at17 x1 x2 x10 b l j R hR
  have e54 : (fun k => val_main_v54 (F := Ideal) x0 x1 x2 x6 x7 x8 x10 (ix3 b l k)) = _ := funext (at54 x0 x1 x2 x6 x7 x8 x10 b l)
  have e58 : (fun k => val_main_v58 (F := Ideal) x0 x1 x2 x6 x7 x8 x10 x11 (ix3 b l k)) = _ := funext (at58 x0 x1 x2 x6 x7 x8 x10 x11 b l)
  have e60 : (fun k => val_main_v60 (F := Ideal) x0 x1 x2 x6 x7 x8 x10 x11 x12 (ix3 b l k)) = _ := funext (at60 x0 x1 x2 x6 x7 x8 x10 x11 x12 b l)
  rw [e60, e58, e54, e34, e17]

theorem headsS (R : Fin 8192) (k : Fin 1024) : val_main_v92 (F := Ideal) x4 x5 (ix2 R k) = beside (fun k => x4 (ix2 R k)) (fun k => x5 (ix2 R k)) k := by
  pointwise [val_main_v92]
  unfold beside
  split <;> rfl

theorem at96 (b : Fin 8) (l : Fin 1024) (j : Fin 1024) (R : Fin 8192) (hR : (R : ℕ) = 1024 * b + l) : val_main_v96 (F := Ideal) x4 x5 x10 (ix3 b l j)
    = proj (beside (fun k => x4 (ix2 R k)) (fun k => x5 (ix2 R k))) (fun k j => x10 (ix3 0 k j)) j := by
  rw [← funext (headsS x4 x5 R)]
  unfold val_main_v96 val_main_v95 val_main_v94 val_main_v93
  generalize val_main_v92 (F := Ideal) x4 x5 = y
  pointwise
  unfold proj
  refine Finset.sum_congr rfl fun k _ => congrArg (fun z => y z * x10 (ix3 0 k j)) ?_
  blk_ext

theorem at113 (b : Fin 8) (l : Fin 1024) (j : Fin 1024) : val_main_v113 (F := Ideal) x3 x4 x5 x6 x7 x10 (ix3 b l j)
    = res (fun k => x3 (ix3 b l k)) (fun k => x6 (ix3 ⟨1 + b, by omega⟩ 2 k)) (fun k => x7 (ix2 0 k)) (fun k => val_main_v96 (F := Ideal) x4 x5 x10 (ix3 b l k)) j := by
  unfold val_main_v113 val_main_v112 val_main_v111 val_main_v110 val_main_v109 val_main_v108 val_main_v107 val_main_v106 val_main_v105 val_main_v104 val_main_v103 val_main_cst_11 val_main_v102 val_main_v101 val_main_cst_10 val_main_v100 val_main_v99 val_main_cst_9 val_main_v98 val_main_v97
  generalize val_main_v96 (F := Ideal) x4 x5 x10 = y96
  pointwise [val_main_v91, val_main_v90, val_main_v89, val_main_v88, val_main_v87, val_main_v86, val_main_v85, val_main_v84, val_main_v83, val_main_v82, val_main_v81, val_main_v80, val_main_v79]
  unfold res Rest.norm
  rfl

theorem at133 (b : Fin 8) (l : Fin 1024) (j : Fin 1024) : val_main_v133 (F := Ideal) x3 x4 x5 x6 x7 x8 x10 (ix3 b l j)
    = pre (fun k => val_main_v113 (F := Ideal) x3 x4 x5 x6 x7 x10 (ix3 b l k)) (fun k => x8 (ix2 0 k)) (fun k => x6 (ix3 ⟨1 + b, by omega⟩ 4 k)) (fun k => x6 (ix3 ⟨1 + b, by omega⟩ 3 k)) j := by
  unfold val_main_v133 val_main_v132 val_main_v131 val_main_v130 val_main_v129 val_main_v128 val_main_cst_15 val_main_v127 val_main_v126 val_main_v125 val_main_v124 val_main_v123 val_main_v122 val_main_v121 val_main_v120 val_main_cst_14 val_main_v119 val_main_v118 val_main_cst_13 val_main_v117 val_main_v116 val_main_cst_12 val_main_v115 val_main_v114
  generalize val_main_v113 (F := Ideal) x3 x4 x5 x6 x7 x10 = y113
  pointwise [val_main_v91, val_main_v90, val_main_v89, val_main_v88, val_main_v87, val_main_v86, val_main_v85, val_main_v84, val_main_v83, val_main_v82, val_main_v81, val_main_v80, val_main_v79]
  unfold pre Rest.norm
  rfl

theorem at137 (b : Fin 8) (l : Fin 1024) (j : Fin 4096) : val_main_v137 (F := Ideal) x3 x4 x5 x6 x7 x8 x10 x11 (ix3 b l j)
    = act (proj (fun k => val_main_v133 (F := Ideal) x3 x4 x5 x6 x7 x8 x10 (ix3 b l k)) (fun k j => x11 (ix3 0 k j))) j := by
  unfold val_main_v137 val_main_v136 val_main_call1_v0 val_main_call1_cst val_main_v135 val_main_v134
  generalize val_main_v133 (F := Ideal) x3 x4 x5 x6 x7 x8 x10 = y133
  pointwise [val_main_v91, val_main_v90, val_main_v89, val_main_v88, val_main_v87, val_main_v86, val_main_v85, val_main_v84, val_main_v83, val_main_v82, val_main_v81, val_main_v80, val_main_v79]
  unfold act proj
  rfl

theorem at139 (b : Fin 8) (l : Fin 1024) (j : Fin 1024) : val_main_v139 (F := Ideal) x3 x4 x5 x6 x7 x8 x10 x11 x12 (ix3 b l j)
    = proj (fun k => val_main_v137 (F := Ideal) x3 x4 x5 x6 x7 x8 x10 x11 (ix3 b l k)) (fun k j => x12 (ix3 0 k j)) j := by
  unfold val_main_v139 val_main_v138
  generalize val_main_v137 (F := Ideal) x3 x4 x5 x6 x7 x8 x10 x11 = y137
  pointwise [val_main_v91, val_main_v90, val_main_v89, val_main_v88, val_main_v87, val_main_v86, val_main_v85, val_main_v84, val_main_v83, val_main_v82, val_main_v81, val_main_v80, val_main_v79]
  unfold proj
  rfl

theorem at156 (b : Fin 8) (l : Fin 1024) (j : Fin 1024) : val_main_v156 (F := Ideal) x3 x4 x5 x6 x7 x8 x9 x10 x11 x12 (ix3 b l j)
    = res (fun k => val_main_v113 (F := Ideal) x3 x4 x5 x6 x7 x10 (ix3 b l k)) (fun k => x6 (ix3 ⟨1 + b, by omega⟩ 5 k)) (fun k => x9 (ix2 0 k)) (fun k => val_main_v139 (F := Ideal) x3 x4 x5 x6 x7 x8 x10 x11 x12 (ix3 b l k)) j := by
  unfold val_main_v156 val_main_v155 val_main_v154 val_main_v153 val_main_v152 val_main_v151 val_main_v150 val_main_v149 val_main_v148 val_main_v147 val_main_v146 val_main_cst_18 val_main_v145 val_main_v144 val_main_cst_17 val_main_v143 val_main_v142 val_main_cst_16 val_main_v141 val_main_v140
  generalize val_main_v139 (F := Ideal) x3 x4 x5 x6 x7 x8 x10 x11 x12 = y139
  generalize val_main_v113 (F := Ideal) x3 x4 x5 x6 x7 x10 = y113
  pointwise [val_main_v91, val_main_v90, val_main_v89, val_main_v88, val_main_v87, val_main_v86, val_main_v85, val_main_v84, val_main_v83, val_main_v82, val_main_v81, val_main_v80, val_main_v79]
  unfold res Rest.norm
  rfl

/-- A result at a row and a column. -/
theorem at157 (b : Fin 8) (l : Fin 1024) (j : Fin 1024) (R : Fin 8192) (hR : (R : ℕ) = 1024 * b + l) : val_main_v157 (F := Ideal) x3 x4 x5 x6 x7 x8 x9 x10 x11 x12 (ix2 R j)
    = out (fun k => x3 (ix3 b l k)) (beside (fun k => x4 (ix2 R k)) (fun k => x5 (ix2 R k))) (fun k j => x10 (ix3 0 k j))
        (fun k j => x11 (ix3 0 k j)) (fun k j => x12 (ix3 0 k j)) (fun k => x6 (ix3 ⟨1 + b, by omega⟩ 2 k)) (fun k => x6 (ix3 ⟨1 + b, by omega⟩ 3 k)) (fun k => x6 (ix3 ⟨1 + b, by omega⟩ 4 k)) (fun k => x6 (ix3 ⟨1 + b, by omega⟩ 5 k))
        (fun k => x7 (ix2 0 k)) (fun k => x8 (ix2 0 k)) (fun k => x9 (ix2 0 k)) j := by
  have e : val_main_v157 (F := Ideal) x3 x4 x5 x6 x7 x8 x9 x10 x11 x12 (ix2 R j) = val_main_v156 (F := Ideal) x3 x4 x5 x6 x7 x8 x9 x10 x11 x12 (ix3 b l j) := by
    unfold val_main_v157
    generalize val_main_v156 (F := Ideal) x3 x4 x5 x6 x7 x8 x9 x10 x11 x12 = y
    pointwise
    refine congrArg y ?_
    blk_ext
  rw [e, at156]
  unfold out first
  have e34 : (fun k => val_main_v113 (F := Ideal) x3 x4 x5 x6 x7 x10 (ix3 b l k)) = _ := funext (at113 x3 x4 x5 x6 x7 x10 b l)
  have e17 : (fun k => val_main_v96 (F := Ideal) x4 x5 x10 (ix3 b l k)) = _ := funext fun j => at96 x4 x5 x10 b l j R hR
  have e54 : (fun k => val_main_v133 (F := Ideal) x3 x4 x5 x6 x7 x8 x10 (ix3 b l k)) = _ := funext (at133 x3 x4 x5 x6 x7 x8 x10 b l)
  have e58 : (fun k => val_main_v137 (F := Ideal) x3 x4 x5 x6 x7 x8 x10 x11 (ix3 b l k)) = _ := funext (at137 x3 x4 x5 x6 x7 x8 x10 x11 b l)
  have e60 : (fun k => val_main_v139 (F := Ideal) x3 x4 x5 x6 x7 x8 x10 x11 x12 (ix3 b l k)) = _ := funext (at139 x3 x4 x5 x6 x7 x8 x10 x11 x12 b l)
  rw [e60, e58, e54, e34, e17]

end Cert.OutReferenceIdeal.At
end
-- ==== Proof.OutI.Final.lean ====
module
public import proofs.«01_k».proof.Proof.OutI.At
public import proofs.«01_k».proof.Proof.OutI.Launch
public import proofs.«01_k».proof.Proof.OutRef
public import Idealize.ShloMosaic.Lib.Claim

/-! The kernel's two result arrays are the reference's. -/

@[expose] public section
set_option maxRecDepth 16384
noncomputable section
namespace Cert.OutKernelIdeal.Body
open Cert.OutKernelIdeal Cert.OutKernelIdeal.Gen Idealize.ShloMosaic Idealize.ShloMosaic.TcCoe Idealize.SL.Sem
open Idealize.ShloMosaic.Pipeline (Dat)
open Cert.Rest Cert.OutReferenceIdeal.At Cert.OutReferenceIdeal.Read
variable (m : (ℓ : Loc nD τ sig) → Buf (Elt Ideal) ℓ)

/-- Where each window's block lies. -/
theorem idx : ∀ t : Fin cfg0.N, win0_0.index t = ![min t.val 15, 0] ∧ win0_1.index t = ![min t.val 15, 0] ∧ win0_2.index t = ![min t.val 15, 0]
    ∧ win0_3.index t = ![t.val - 16, 0] ∧ win0_4.index t = ![t.val - 16, 0] ∧ win0_5.index t = ![t.val - 16, 0]
    ∧ win0_6.index t = ![if t.val < 16 then 0 else 1 + (t.val - 16) / 2, 0, 0] ∧ win0_7.index t = ![0, 0] ∧ win0_8.index t = ![0, 0]
    ∧ win0_9.index t = ![0, 0] ∧ win0_10.index t = ![min t.val 15, 0] ∧ win0_11.index t = ![t.val - 16, 0] :=
  (by decide +kernel : ∀ t : Fin grid0.N, _)

theorem x_at (c : Dev nD) (t : Fin cfg0.N) (r : Fin 512) (k : Fin 1024) (b : Fin 32) (l : Fin 256) (h : 512 * min t.val 15 + r = 256 * b + l) :
    (iblk m c 0 t : Vec Ideal S512x1024 .f32) (ix2 r k) = (m ((c : Thread nD τ).loc main_arg0) : Vec Ideal S32x256x1024 .f32) (ix3 b l k) := by
  blk_simp [iblk]
  entry_read
  pointwise
  blk_ext [idx t]

theorem a_at (c : Dev nD) (t : Fin cfg0.N) (r : Fin 512) (k : Fin 512) (R : Fin 8192) (h : (R : ℕ) = 512 * min t.val 15 + r) :
    (iblk m c 1 t : Vec Ideal S512x512 .bf16) (ix2 r k) = (m ((c : Thread nD τ).loc main_arg1) : Vec Ideal S8192x512 .bf16) (ix2 R k) := by
  blk_ext! [iblk, V, idx t]

theorem b_at (c : Dev nD) (t : Fin cfg0.N) (r : Fin 512) (k : Fin 512) (R : Fin 8192) (h : (R : ℕ) = 512 * min t.val 15 + r) :
    (iblk m c 2 t : Vec Ideal S512x512 .bf16) (ix2 r k) = (m ((c : Thread nD τ).loc main_arg2) : Vec Ideal S8192x512 .bf16) (ix2 R k) := by
  blk_ext! [iblk, V, idx t]

theorem xs_at (c : Dev nD) (t : Fin cfg0.N) (r : Fin 512) (k : Fin 1024) (b : Fin 8) (l : Fin 1024) (h : 512 * (t.val - 16) + r = 1024 * b + l) :
    (iblk m c 3 t : Vec Ideal S512x1024 .f32) (ix2 r k) = (m ((c : Thread nD τ).loc main_arg3) : Vec Ideal S8x1024x1024 .f32) (ix3 b l k) := by
  blk_simp [iblk]
  entry_read
  pointwise
  blk_ext [idx t]

theorem as_at (c : Dev nD) (t : Fin cfg0.N) (r : Fin 512) (k : Fin 512) (R : Fin 8192) (h : (R : ℕ) = 512 * (t.val - 16) + r) :
    (iblk m c 4 t : Vec Ideal S512x512 .bf16) (ix2 r k) = (m ((c : Thread nD τ).loc main_arg4) : Vec Ideal S8192x512 .bf16) (ix2 R k) := by
  blk_ext! [iblk, V, idx t]

theorem bs_at (c : Dev nD) (t : Fin cfg0.N) (r : Fin 512) (k : Fin 512) (R : Fin 8192) (h : (R : ℕ) = 512 * (t.val - 16) + r) :
    (iblk m c 5 t : Vec Ideal S512x512 .bf16) (ix2 r k) = (m ((c : Thread nD τ).loc main_arg5) : Vec Ideal S8192x512 .bf16) (ix2 R k) := by
  blk_ext! [iblk, V, idx t]

theorem n1_at (c : Dev nD) (t : Fin cfg0.N) (k : Fin 1024) :
    (iblk m c 7 t : Vec Ideal S1x1024 .f32) (ix2 0 k) = (m ((c : Thread nD τ).loc main_arg7) : Vec Ideal S1x1024 .f32) (ix2 0 k) := by
  blk_simp [iblk]
  entry_read
  pointwise
  blk_ext [idx t]

theorem n2_at (c : Dev nD) (t : Fin cfg0.N) (k : Fin 1024) :
    (iblk m c 8 t : Vec Ideal S1x1024 .f32) (ix2 0 k) = (m ((c : Thread nD τ).loc main_arg8) : Vec Ideal S1x1024 .f32) (ix2 0 k) := by
  blk_simp [iblk]
  entry_read
  pointwise
  blk_ext [idx t]

theorem n3_at (c : Dev nD) (t : Fin cfg0.N) (k : Fin 1024) :
    (iblk m c 9 t : Vec Ideal S1x1024 .f32) (ix2 0 k) = (m ((c : Thread nD τ).loc main_arg9) : Vec Ideal S1x1024 .f32) (ix2 0 k) := by
  blk_simp [iblk]
  entry_read
  pointwise
  blk_ext [idx t]

theorem mods_at (c : Dev nD) (t : Fin cfg0.N) (i : Fin 6) (k : Fin 1024) (s : Fin 9) (h : (s : ℕ) = if t.val < 16 then 0 else 1 + (t.val - 16) / 2) :
    (iblk m c 6 t : Vec Ideal S1x6x1024 .f32) (ix3 0 i k) = (m ((c : Thread nD τ).loc main_arg6) : Vec Ideal S9x6x1024 .f32) (ix3 s i k) := by
  blk_ext! [iblk, V, idx t]

theorem flat0 (X : Vec Ideal S1x1024x1024 .f32) (k : Fin 1024) (j : Fin 1024) :
    shapeCast S1024x1024 X shapeCasts_S1x1024x1024_S1024x1024 (ix2 k j) = X (ix3 0 k j) := by
  pointwise

theorem w0_at (c : Dev nD) (k : Fin 1024) (j : Fin 1024) :
    w0 m c (ix2 k j) = (m ((c : Thread nD τ).loc main_arg10) : Vec Ideal S1x1024x1024 .f32) (ix3 0 k j) := by
  blk_simp [w0, castW]
  entry_read
  exact flat0 _ k j

theorem flat1 (X : Vec Ideal S1x1024x4096 .f32) (k : Fin 1024) (j : Fin 4096) :
    shapeCast S1024x4096 X shapeCasts_S1x1024x4096_S1024x4096 (ix2 k j) = X (ix3 0 k j) := by
  pointwise

theorem w1_at (c : Dev nD) (k : Fin 1024) (j : Fin 4096) :
    w1 m c (ix2 k j) = (m ((c : Thread nD τ).loc main_arg11) : Vec Ideal S1x1024x4096 .f32) (ix3 0 k j) := by
  blk_simp [w1, castW]
  entry_read
  exact flat1 _ k j

theorem flat2 (X : Vec Ideal S1x4096x1024 .f32) (k : Fin 4096) (j : Fin 1024) :
    shapeCast S4096x1024 X shapeCasts_S1x4096x1024_S4096x1024 (ix2 k j) = X (ix3 0 k j) := by
  pointwise

theorem w2_at (c : Dev nD) (k : Fin 4096) (j : Fin 1024) :
    w2 m c (ix2 k j) = (m ((c : Thread nD τ).loc main_arg12) : Vec Ideal S1x4096x1024 .f32) (ix3 0 k j) := by
  blk_simp [w2, castW]
  entry_read
  exact flat2 _ k j

/-- A tile of the prompt's rows is a tile of the reference's result. -/
theorem tileP_at (c : Dev nD) (t : Fin cfg0.N) (ht : t.val < 16) (r : Fin 512) (j : Fin 1024) (R : Fin 8192) (hR : (R : ℕ) = 512 * min t.val 15 + r) :
    tileP m c t (ix2 r j) = val_main_v78 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 R j) := by
  have hN : t.val < 32 := N_0 ▸ t.isLt
  obtain ⟨b, l, hbl⟩ : ∃ (b : Fin 32) (l : Fin 256), (R : ℕ) = 256 * b + l := ⟨⟨R / 256, by omega⟩, ⟨R % 256, by omega⟩, by dsimp only; omega⟩
  unfold tileP
  refine (tile_at _ _ _ _ _ _ _ _ _ _ r j).trans (Eq.trans ?_ (at78 _ _ _ _ _ _ _ _ _ _ b l j R hbl).symm)
  have eM := fun i k => mods_at m c t i k 0 (by rw [if_pos ht]; rfl)
  rw [funext fun k => x_at m c t r k b l (by omega), funext fun k => a_at m c t r k R hR, funext fun k => b_at m c t r k R hR,
    funext fun k => n1_at m c t k, funext fun k => n2_at m c t k, funext fun k => n3_at m c t k,
    funext fun k => eM 2 k, funext fun k => eM 3 k, funext fun k => eM 4 k, funext fun k => eM 5 k,
    funext fun k => funext fun j => w0_at m c k j, funext fun k => funext fun j => w1_at m c k j, funext fun k => funext fun j => w2_at m c k j]

/-- A tile of the sample's rows is a tile of the reference's result. -/
theorem tileS_at (c : Dev nD) (t : Fin cfg0.N) (ht : 16 ≤ t.val) (r : Fin 512) (j : Fin 1024) (R : Fin 8192) (hR : (R : ℕ) = 512 * (t.val - 16) + r) :
    tileS m c t (ix2 r j) = val_main_v157 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 R j) := by
  have hN : t.val < 32 := N_0 ▸ t.isLt
  obtain ⟨b, l, hbl⟩ : ∃ (b : Fin 8) (l : Fin 1024), (R : ℕ) = 1024 * b + l := ⟨⟨R / 1024, by omega⟩, ⟨R % 1024, by omega⟩, by dsimp only; omega⟩
  unfold tileS
  refine (tile_at _ _ _ _ _ _ _ _ _ _ r j).trans (Eq.trans ?_ (at157 _ _ _ _ _ _ _ _ _ _ b l j R hbl).symm)
  have eM := fun i k => mods_at m c t i k ⟨1 + b, by omega⟩ (by rw [if_neg (by omega)]; dsimp only; omega)
  rw [funext fun k => xs_at m c t r k b l (by omega), funext fun k => as_at m c t r k R hR, funext fun k => bs_at m c t r k R hR,
    funext fun k => n1_at m c t k, funext fun k => n2_at m c t k, funext fun k => n3_at m c t k,
    funext fun k => eM 2 k, funext fun k => eM 3 k, funext fun k => eM 4 k, funext fun k => eM 5 k,
    funext fun k => funext fun j => w0_at m c k j, funext fun k => funext fun j => w1_at m c k j, funext fun k => funext fun j => w2_at m c k j]

theorem final10 (c : Dev nD) : (dats m 0 c).arrAt 10 cfg0.N
    = val_main_v78 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 10 _ (by decide +kernel) fun t hf y => ?_
  have hN : t.val < 32 := N_0 ▸ t.isLt
  have hl : (lastP t).val = min t.val 15 := rfl
  blk_simp
  rw [after_10]
  obtain ⟨y0, y1, rfl⟩ : ∃ (y0 : Fin 512) (y1 : Fin 1024), y = ix2 y0 y1 := ⟨y 0, y 1, by blk_ext⟩
  refine (tileP_at m c (lastP t) (by omega) y0 y1 ⟨512 * min t.val 15 + y0, by omega⟩ (by dsimp only; omega)).trans (congrArg _ ?_)
  blk_ext [idx t]

theorem final11 (c : Dev nD) : (dats m 0 c).arrAt 11 cfg0.N
    = val_main_v157 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 11 _ (by decide +kernel) fun t hf y => ?_
  have hN : t.val < 32 := N_0 ▸ t.isLt
  have ht : 16 ≤ t.val := by
    rw [flush11_at, decide_eq_true_eq] at hf
    exact hf
  blk_simp
  rw [after_11]
  obtain ⟨y0, y1, rfl⟩ : ∃ (y0 : Fin 512) (y1 : Fin 1024), y = ix2 y0 y1 := ⟨y 0, y 1, by blk_ext⟩
  refine (tileS_at m c t ht y0 y1 ⟨512 * (t.val - 16) + y0, by omega⟩ rfl).trans (congrArg _ ?_)
  blk_ext [idx t]

end Cert.OutKernelIdeal.Body
end
-- ==== Proof.lean ====
module

public import proofs.«01_k».proof.Defs
public import proofs.«01_k».proof.Proof.Gen.OutKernel
public import proofs.«01_k».proof.Proof.Gen.OutKernel.Skeleton
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Kernel.Frame
public import proofs.«01_k».proof.Proof.Gen.ReferenceIdeal.Run
public import proofs.«01_k».proof.Proof.Finite
public import proofs.«01_k».proof.Proof.OutP.Launch
public import proofs.«01_k».proof.Proof.OutI.Final

/-! The claims: of each of the two kernels, the frames of its three programs and the equality of its results with its
    reference's. -/

@[expose] public section
set_option maxRecDepth 16384
noncomputable section
namespace Cert.Proof
open Idealize.ShloMosaic Idealize.SL.Sem

theorem kernel : Cert.quiescent_Kernel := by
  intro m g _
  exact Cert.Kernel.Gen.frame m g

theorem kernelIdeal : Cert.quiescent_KernelIdeal := by
  intro m g _
  exact Cert.KernelIdeal.Gen.frame m g

theorem referenceIdeal : Cert.quiescent_ReferenceIdeal := by
  intro m g _
  refine (θ_run _ _ _).mono (fun r h => ⟨fun c => (h c).2.2.2, ?_⟩) (Cert.ReferenceIdeal.Value.run (F := Ideal) m g)
  exact sem_eq_zero_of_no_sems (by decide) r.2

section
open Cert.ReferenceIdeal Cert.ReferenceIdeal.Read
/-- The reference's run, its results named by their last operations. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v104) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v105) = val_main_v105 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v106) = val_main_v106 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans (val_main_v104_eq _), (h c).2.1.trans (val_main_v105_eq _),
    (h c).2.2.1.trans (val_main_v106_eq _), (h c).2.2.2⟩) (Cert.ReferenceIdeal.Value.run m g)
end

theorem algebraic : Cert.algebraic_KernelIdeal_ReferenceIdeal_pre_inputs_are_finite := by
  pair_intro
  · run_from Cert.KernelIdeal.Value.run_blocks m g
  · run_from reference_run m' g'
    · obtain ⟨r0, r1, r2, r3, r4, r5, r6, r7⟩ := Cert.Finite.of_pre m hpre c
      exact (Cert.KernelIdeal.Tile.final6 m c r0 r1 r2 r3 r4 r5 r6 r7).symm
    · exact (Cert.KernelIdeal.Tile.final7 m c).symm
    · exact (Cert.KernelIdeal.Tile.final8 m c).symm

theorem outKernel : Cert.quiescent_OutKernel := by
  intro m g _
  exact Cert.OutKernel.Body.frame m g

theorem outKernelIdeal : Cert.quiescent_OutKernelIdeal := by
  intro m g _
  exact Cert.OutKernelIdeal.Body.frame m g

theorem outReferenceIdeal : Cert.quiescent_OutReferenceIdeal := by
  intro m g _
  refine (θ_run _ _ _).mono (fun r h => ⟨fun c => (h c).2.2, ?_⟩) (Cert.OutReferenceIdeal.Value.run (F := Ideal) m g)
  exact sem_eq_zero_of_no_sems (by decide) r.2

section
open Cert.OutReferenceIdeal Cert.OutReferenceIdeal.Read
/-- The second reference's run, its results named by their last operations. -/
theorem outReference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v157) = val_main_v157 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => ⟨(h c).1.trans (val_main_v78_eq _), (h c).2.1.trans (val_main_v157_eq _), (h c).2.2⟩)
    (Cert.OutReferenceIdeal.Value.run m g)
end

section
open Cert.OutKernelIdeal Cert.OutKernelIdeal.Gen Cert.OutReferenceIdeal.Read
/-- The second kernel's run, its results named as the reference's. -/
theorem outKernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v11_0) = val_main_v78 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v11_1) = val_main_v157 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun r h c => ⟨((h.1 c).1 10).trans (Cert.OutKernelIdeal.Body.final10 m c),
    ((h.1 c).1 11).trans (Cert.OutKernelIdeal.Body.final11 m c), Cert.OutKernelIdeal.Body.kept m r h.1 c⟩) (Cert.OutKernelIdeal.Body.run m g)
end

theorem outAlgebraic : Cert.algebraic_OutKernelIdeal_OutReferenceIdeal := by
  pair_intro
  · run_from outKernel_run m g
  · run_from outReference_run m' g'

theorem claim : Cert.Claim :=
  ⟨Cert.Kernel.Gen.facts, Cert.KernelIdeal.Gen.facts, Cert.ReferenceIdeal.Gen.facts, Cert.OutKernel.Gen.facts, Cert.OutKernelIdeal.Gen.facts,
    Cert.OutReferenceIdeal.Gen.facts, Cert.Finite.facts, kernel, kernelIdeal, fun m g _ => kernelIdeal m g trivial, referenceIdeal,
    fun m g _ => referenceIdeal m g trivial, outKernel, outKernelIdeal, outReferenceIdeal, trivial, algebraic, trivial, outAlgebraic⟩

end Cert.Proof
end
